-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![32768, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S32768x512 : Shape := ⟨2, ![32768, 512]⟩
abbrev S15x2 : Shape := ⟨2, ![15, 2]⟩
abbrev S_ : Shape := ⟨0, ![]⟩
abbrev S1x1 : Shape := ⟨2, ![1, 1]⟩
abbrev S512x512 : Shape := ⟨2, ![512, 512]⟩

abbrev nBuf : Space → Nat
  | .hbm => 2
  | .vmem => 1
  | .smem => 0
  | _ => 0

abbrev bufTy : (tb : Table) → Fin (tcTables nBuf tb) → BufTy
  | .hbm, ⟨0, _⟩ => ⟨S2048x512, .f32⟩
  | .hbm, ⟨1, _⟩ => ⟨S32768x512, .f32⟩
  | .local _ .vmem, ⟨0, _⟩ => ⟨S2048x512, .f32⟩
  | _, _ => ⟨S2048x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 122 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | _ => false

abbrev sig : RefSig :=
  (ofTc nBuf bufTy 1 122 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2048_i32 : BitVec 32 := 2048#32
  let v13 : BitVec 32 := Scalar.muli v2 c2048_i32
  let c0_i32_10 : BitVec 32 := 0#32
  ![v13.toNat, 0]
def k0_off2 (d0 : Dev nD) (c0_i32_12 : BitVec 32) (c0_i32_16 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v16 : BitVec 32 := Scalar.subi v2 c0_i32_12
  let c16_i32_13 : BitVec 32 := 16#32
  let v17 : BitVec 32 := Scalar.addi v16 c16_i32_13
  let c16_i32_14 : BitVec 32 := 16#32
  let v18 : BitVec 32 := Scalar.remsi v17 c16_i32_14
  let c2048_i32_15 : BitVec 32 := 2048#32
  let v19 : BitVec 32 := Scalar.muli v18 c2048_i32_15
  let v20 : BitVec 32 := Scalar.addi v19 c0_i32_16
  let c0_i32_23 : BitVec 32 := 0#32
  ![v20.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_21 : BitVec 32 := 1#32
  let v21 : BitVec 32 := Scalar.muli v7 c1_i32_21
  let v22 : BitVec 32 := Scalar.addi c0_i32_22 v21
  v22.toNat
def k0_off3 (d0 : Dev nD) (c0_i32_25 : BitVec 32) (c0_i32_28 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v29 : BitVec 32 := Scalar.addi v2 c0_i32_25
  let c16_i32_26 : BitVec 32 := 16#32
  let v30 : BitVec 32 := Scalar.remsi v29 c16_i32_26
  let c2048_i32_27 : BitVec 32 := 2048#32
  let v31 : BitVec 32 := Scalar.muli v30 c2048_i32_27
  let c1024_i32 : BitVec 32 := 1024#32
  let v32 : BitVec 32 := Scalar.addi v31 c1024_i32
  let v33 : BitVec 32 := Scalar.addi v32 c0_i32_28
  let c0_i32_35 : BitVec 32 := 0#32
  ![v33.toNat, 0]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_33 : BitVec 32 := 1#32
  let v34 : BitVec 32 := Scalar.muli v5 c1_i32_33
  let v35 : BitVec 32 := Scalar.addi c0_i32_34 v34
  v35.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_45 : BitVec 32 := 1#32
  let v47 : BitVec 32 := Scalar.muli v7 c1_i32_45
  let v48 : BitVec 32 := Scalar.addi c0_i32_46 v47
  v48.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_58 : BitVec 32 := 1#32
  let v60 : BitVec 32 := Scalar.muli v5 c1_i32_58
  let v61 : BitVec 32 := Scalar.addi c0_i32_59 v60
  v61.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_84 : BitVec 32 := 1#32
  let v84 : BitVec 32 := Scalar.muli v7 c1_i32_84
  let v85 : BitVec 32 := Scalar.addi c0_i32_85 v84
  v85.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_110 : BitVec 32 := 1#32
  let v108 : BitVec 32 := Scalar.muli v5 c1_i32_110
  let v109 : BitVec 32 := Scalar.addi c0_i32_111 v108
  v109.toNat
def k0_dev9 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_136 : BitVec 32 := 1#32
  let v132 : BitVec 32 := Scalar.muli v7 c1_i32_136
  let v133 : BitVec 32 := Scalar.addi c0_i32_137 v132
  v133.toNat
def k0_dev10 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_162 : BitVec 32 := 1#32
  let v156 : BitVec 32 := Scalar.muli v5 c1_i32_162
  let v157 : BitVec 32 := Scalar.addi c0_i32_163 v156
  v157.toNat
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_188 : BitVec 32 := 1#32
  let v180 : BitVec 32 := Scalar.muli v7 c1_i32_188
  let v181 : BitVec 32 := Scalar.addi c0_i32_189 v180
  v181.toNat
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_214 : BitVec 32 := 1#32
  let v204 : BitVec 32 := Scalar.muli v5 c1_i32_214
  let v205 : BitVec 32 := Scalar.addi c0_i32_215 v204
  v205.toNat
def k0_dev13 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_240 : BitVec 32 := 1#32
  let v228 : BitVec 32 := Scalar.muli v7 c1_i32_240
  let v229 : BitVec 32 := Scalar.addi c0_i32_241 v228
  v229.toNat
def k0_dev14 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_266 : BitVec 32 := 1#32
  let v252 : BitVec 32 := Scalar.muli v5 c1_i32_266
  let v253 : BitVec 32 := Scalar.addi c0_i32_267 v252
  v253.toNat
def k0_dev15 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_291 : BitVec 32 := 1#32
  let v276 : BitVec 32 := Scalar.muli v7 c1_i32_291
  let v277 : BitVec 32 := Scalar.addi c0_i32_292 v276
  v277.toNat
def k0_dev16 (d0 : Dev nD) : Nat :=
  let c0_i32_318 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_317 : BitVec 32 := 1#32
  let v300 : BitVec 32 := Scalar.muli v5 c1_i32_317
  let v301 : BitVec 32 := Scalar.addi c0_i32_318 v300
  v301.toNat
def k0_dev17 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_343 : BitVec 32 := 1#32
  let v324 : BitVec 32 := Scalar.muli v7 c1_i32_343
  let v325 : BitVec 32 := Scalar.addi c0_i32_344 v324
  v325.toNat
def k0_dev18 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_369 : BitVec 32 := 1#32
  let v348 : BitVec 32 := Scalar.muli v5 c1_i32_369
  let v349 : BitVec 32 := Scalar.addi c0_i32_370 v348
  v349.toNat
def k0_dev19 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_394 : BitVec 32 := 1#32
  let v372 : BitVec 32 := Scalar.muli v7 c1_i32_394
  let v373 : BitVec 32 := Scalar.addi c0_i32_395 v372
  v373.toNat
def k0_dev20 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_420 : BitVec 32 := 1#32
  let v396 : BitVec 32 := Scalar.muli v5 c1_i32_420
  let v397 : BitVec 32 := Scalar.addi c0_i32_421 v396
  v397.toNat
def k0_dev21 (d0 : Dev nD) : Nat :=
  let c0_i32_447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_446 : BitVec 32 := 1#32
  let v420 : BitVec 32 := Scalar.muli v7 c1_i32_446
  let v421 : BitVec 32 := Scalar.addi c0_i32_447 v420
  v421.toNat
def k0_dev22 (d0 : Dev nD) : Nat :=
  let c0_i32_473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_472 : BitVec 32 := 1#32
  let v444 : BitVec 32 := Scalar.muli v5 c1_i32_472
  let v445 : BitVec 32 := Scalar.addi c0_i32_473 v444
  v445.toNat
def k0_dev23 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_497 : BitVec 32 := 1#32
  let v468 : BitVec 32 := Scalar.muli v7 c1_i32_497
  let v469 : BitVec 32 := Scalar.addi c0_i32_498 v468
  v469.toNat
def k0_dev24 (d0 : Dev nD) : Nat :=
  let c0_i32_524 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_523 : BitVec 32 := 1#32
  let v492 : BitVec 32 := Scalar.muli v5 c1_i32_523
  let v493 : BitVec 32 := Scalar.addi c0_i32_524 v492
  v493.toNat
def k0_dev25 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_549 : BitVec 32 := 1#32
  let v516 : BitVec 32 := Scalar.muli v7 c1_i32_549
  let v517 : BitVec 32 := Scalar.addi c0_i32_550 v516
  v517.toNat
def k0_dev26 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_575 : BitVec 32 := 1#32
  let v540 : BitVec 32 := Scalar.muli v5 c1_i32_575
  let v541 : BitVec 32 := Scalar.addi c0_i32_576 v540
  v541.toNat
def k0_dev27 (d0 : Dev nD) : Nat :=
  let c0_i32_601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_600 : BitVec 32 := 1#32
  let v564 : BitVec 32 := Scalar.muli v7 c1_i32_600
  let v565 : BitVec 32 := Scalar.addi c0_i32_601 v564
  v565.toNat
def k0_dev28 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_626 : BitVec 32 := 1#32
  let v588 : BitVec 32 := Scalar.muli v5 c1_i32_626
  let v589 : BitVec 32 := Scalar.addi c0_i32_627 v588
  v589.toNat
def k0_dev29 (d0 : Dev nD) : Nat :=
  let c0_i32_653 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_652 : BitVec 32 := 1#32
  let v612 : BitVec 32 := Scalar.muli v7 c1_i32_652
  let v613 : BitVec 32 := Scalar.addi c0_i32_653 v612
  v613.toNat
def k0_dev30 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_678 : BitVec 32 := 1#32
  let v636 : BitVec 32 := Scalar.muli v5 c1_i32_678
  let v637 : BitVec 32 := Scalar.addi c0_i32_679 v636
  v637.toNat
def k0_dev31 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_703 : BitVec 32 := 1#32
  let v660 : BitVec 32 := Scalar.muli v7 c1_i32_703
  let v661 : BitVec 32 := Scalar.addi c0_i32_704 v660
  v661.toNat
def k0_dev32 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_729 : BitVec 32 := 1#32
  let v684 : BitVec 32 := Scalar.muli v5 c1_i32_729
  let v685 : BitVec 32 := Scalar.addi c0_i32_730 v684
  v685.toNat
def k0_dev33 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_755 : BitVec 32 := 1#32
  let v708 : BitVec 32 := Scalar.muli v7 c1_i32_755
  let v709 : BitVec 32 := Scalar.addi c0_i32_756 v708
  v709.toNat
def k0_dev34 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_781 : BitVec 32 := 1#32
  let v732 : BitVec 32 := Scalar.muli v5 c1_i32_781
  let v733 : BitVec 32 := Scalar.addi c0_i32_782 v732
  v733.toNat
def k0_dev35 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_806 : BitVec 32 := 1#32
  let v756 : BitVec 32 := Scalar.muli v7 c1_i32_806
  let v757 : BitVec 32 := Scalar.addi c0_i32_807 v756
  v757.toNat
def k0_dev36 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_832 : BitVec 32 := 1#32
  let v780 : BitVec 32 := Scalar.muli v5 c1_i32_832
  let v781 : BitVec 32 := Scalar.addi c0_i32_833 v780
  v781.toNat
def k0_dev37 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_858 : BitVec 32 := 1#32
  let v804 : BitVec 32 := Scalar.muli v7 c1_i32_858
  let v805 : BitVec 32 := Scalar.addi c0_i32_859 v804
  v805.toNat
def k0_dev38 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_884 : BitVec 32 := 1#32
  let v828 : BitVec 32 := Scalar.muli v5 c1_i32_884
  let v829 : BitVec 32 := Scalar.addi c0_i32_885 v828
  v829.toNat
def k0_dev39 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_909 : BitVec 32 := 1#32
  let v852 : BitVec 32 := Scalar.muli v7 c1_i32_909
  let v853 : BitVec 32 := Scalar.addi c0_i32_910 v852
  v853.toNat
def k0_dev40 (d0 : Dev nD) : Nat :=
  let c0_i32_936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_935 : BitVec 32 := 1#32
  let v876 : BitVec 32 := Scalar.muli v5 c1_i32_935
  let v877 : BitVec 32 := Scalar.addi c0_i32_936 v876
  v877.toNat
def k0_dev41 (d0 : Dev nD) : Nat :=
  let c0_i32_962 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_961 : BitVec 32 := 1#32
  let v900 : BitVec 32 := Scalar.muli v7 c1_i32_961
  let v901 : BitVec 32 := Scalar.addi c0_i32_962 v900
  v901.toNat
def k0_dev42 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_987 : BitVec 32 := 1#32
  let v924 : BitVec 32 := Scalar.muli v5 c1_i32_987
  let v925 : BitVec 32 := Scalar.addi c0_i32_988 v924
  v925.toNat
def k0_dev43 (d0 : Dev nD) : Nat :=
  let c0_i32_1013 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1012 : BitVec 32 := 1#32
  let v948 : BitVec 32 := Scalar.muli v7 c1_i32_1012
  let v949 : BitVec 32 := Scalar.addi c0_i32_1013 v948
  v949.toNat
def k0_dev44 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1038 : BitVec 32 := 1#32
  let v972 : BitVec 32 := Scalar.muli v5 c1_i32_1038
  let v973 : BitVec 32 := Scalar.addi c0_i32_1039 v972
  v973.toNat
def k0_dev45 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1064 : BitVec 32 := 1#32
  let v996 : BitVec 32 := Scalar.muli v7 c1_i32_1064
  let v997 : BitVec 32 := Scalar.addi c0_i32_1065 v996
  v997.toNat
def k0_dev46 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1090 : BitVec 32 := 1#32
  let v1020 : BitVec 32 := Scalar.muli v5 c1_i32_1090
  let v1021 : BitVec 32 := Scalar.addi c0_i32_1091 v1020
  v1021.toNat
def k0_dev47 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1115 : BitVec 32 := 1#32
  let v1044 : BitVec 32 := Scalar.muli v7 c1_i32_1115
  let v1045 : BitVec 32 := Scalar.addi c0_i32_1116 v1044
  v1045.toNat
def k0_dev48 (d0 : Dev nD) : Nat :=
  let c0_i32_1142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1141 : BitVec 32 := 1#32
  let v1068 : BitVec 32 := Scalar.muli v5 c1_i32_1141
  let v1069 : BitVec 32 := Scalar.addi c0_i32_1142 v1068
  v1069.toNat
def k0_dev49 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1167 : BitVec 32 := 1#32
  let v1092 : BitVec 32 := Scalar.muli v7 c1_i32_1167
  let v1093 : BitVec 32 := Scalar.addi c0_i32_1168 v1092
  v1093.toNat
def k0_dev50 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1193 : BitVec 32 := 1#32
  let v1116 : BitVec 32 := Scalar.muli v5 c1_i32_1193
  let v1117 : BitVec 32 := Scalar.addi c0_i32_1194 v1116
  v1117.toNat
def k0_dev51 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1218 : BitVec 32 := 1#32
  let v1140 : BitVec 32 := Scalar.muli v7 c1_i32_1218
  let v1141 : BitVec 32 := Scalar.addi c0_i32_1219 v1140
  v1141.toNat
def k0_dev52 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1244 : BitVec 32 := 1#32
  let v1164 : BitVec 32 := Scalar.muli v5 c1_i32_1244
  let v1165 : BitVec 32 := Scalar.addi c0_i32_1245 v1164
  v1165.toNat
def k0_dev53 (d0 : Dev nD) : Nat :=
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1270 : BitVec 32 := 1#32
  let v1188 : BitVec 32 := Scalar.muli v7 c1_i32_1270
  let v1189 : BitVec 32 := Scalar.addi c0_i32_1271 v1188
  v1189.toNat
def k0_dev54 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1296 : BitVec 32 := 1#32
  let v1212 : BitVec 32 := Scalar.muli v5 c1_i32_1296
  let v1213 : BitVec 32 := Scalar.addi c0_i32_1297 v1212
  v1213.toNat
def k0_dev55 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1321 : BitVec 32 := 1#32
  let v1236 : BitVec 32 := Scalar.muli v7 c1_i32_1321
  let v1237 : BitVec 32 := Scalar.addi c0_i32_1322 v1236
  v1237.toNat
def k0_dev56 (d0 : Dev nD) : Nat :=
  let c0_i32_1348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1347 : BitVec 32 := 1#32
  let v1260 : BitVec 32 := Scalar.muli v5 c1_i32_1347
  let v1261 : BitVec 32 := Scalar.addi c0_i32_1348 v1260
  v1261.toNat
def k0_dev57 (d0 : Dev nD) : Nat :=
  let c0_i32_1374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1373 : BitVec 32 := 1#32
  let v1284 : BitVec 32 := Scalar.muli v7 c1_i32_1373
  let v1285 : BitVec 32 := Scalar.addi c0_i32_1374 v1284
  v1285.toNat
def k0_dev58 (d0 : Dev nD) : Nat :=
  let c0_i32_1400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1399 : BitVec 32 := 1#32
  let v1308 : BitVec 32 := Scalar.muli v5 c1_i32_1399
  let v1309 : BitVec 32 := Scalar.addi c0_i32_1400 v1308
  v1309.toNat
def k0_dev59 (d0 : Dev nD) : Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1424 : BitVec 32 := 1#32
  let v1332 : BitVec 32 := Scalar.muli v7 c1_i32_1424
  let v1333 : BitVec 32 := Scalar.addi c0_i32_1425 v1332
  v1333.toNat
def k0_dev60 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1450 : BitVec 32 := 1#32
  let v1356 : BitVec 32 := Scalar.muli v5 c1_i32_1450
  let v1357 : BitVec 32 := Scalar.addi c0_i32_1451 v1356
  v1357.toNat
def k0_dev61 (d0 : Dev nD) : Nat :=
  let c0_i32_1477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1476 : BitVec 32 := 1#32
  let v1380 : BitVec 32 := Scalar.muli v7 c1_i32_1476
  let v1381 : BitVec 32 := Scalar.addi c0_i32_1477 v1380
  v1381.toNat
def k0_dev62 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1502 : BitVec 32 := 1#32
  let v1404 : BitVec 32 := Scalar.muli v5 c1_i32_1502
  let v1405 : BitVec 32 := Scalar.addi c0_i32_1503 v1404
  v1405.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x512 : Shape := ⟨2, ![32768, 512]⟩

abbrev nBuf : Space → Nat
  | .hbm => 1
  | .vmem => 0
  | .smem => 0
  | _ => 0

abbrev bufTy : (tb : Table) → Fin (tcTables nBuf tb) → BufTy
  | .hbm, ⟨0, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Ideal.Hops.lean ====
/- The kernel as a sequence: the barrier, the local copy, then sixty remote copies that are started, arrive and leave in four loops, at ideal floats. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.KernelIdealProof

open Cert.KernelIdeal Cert.KernelIdeal.Gen
open Idealize.ShloMosaic
open Idealize.SL.Sem

variable {F : FTy → Type} [FloatOps F]

/-- The number of a copy between neighbours: copy `t = 4 h + 2 p + w` is hop `h` of piece `p`, travelling to the right
    neighbour if `w = 0` and to the left one if `w = 1`. -/
abbrev Hop : Type := Fin 60

/-- Whether a copy travels to the left. -/
abbrev wayOf (t : Hop) : Bool := t.val % 2 == 1
/-- The hop a copy belongs to. -/
abbrev hopOf (t : Hop) : Fin 15 := ⟨t.val / 4, by omega⟩
/-- The piece a copy moves. -/
abbrev pieceOf (t : Hop) : Fin 2 := ⟨t.val / 2 % 2, by omega⟩

theorem cell_inb : ∀ (h : Fin 15) (p : Fin 2), ∀ a, (![h.val, p.val] : Fin 2 → Nat) a + S1x1.size a ≤ S15x2.size a := by
  decide

/-- Where, in the gathered array, the rows lie that device `d` sends by the copy `t`. -/
def hopOff (d : Dev nD) (t : Hop) : Fin 2 → Nat :=
  match wayOf t with
  | false => k0_off2 d (BitVec.ofNat 32 (hopOf t).val) (BitVec.ofNat 32 (512 * (pieceOf t).val))
  | true => k0_off3 d (BitVec.ofNat 32 (hopOf t).val) (BitVec.ofNat 32 (512 * (pieceOf t).val))

theorem hopOff_inb (d : Dev nD) (t : Hop) : ∀ a, hopOff d t a + S512x512.size a ≤ S32768x512.size a := by
  unfold hopOff
  cases wayOf t
  · exact k0_off2_inb d (hopOf t) (pieceOf t)
  · exact k0_off3_inb d (hopOf t) (pieceOf t)

/-- The neighbour a copy of device `d` goes to. -/
def hopDev (d : Dev nD) (t : Hop) : Nat :=
  match wayOf t with
  | false => k0_dev2 d
  | true => k0_dev1 d

theorem hopDev_lt (d : Dev nD) (t : Hop) : hopDev d t < nD := by
  unfold hopDev
  cases wayOf t
  · exact k0_dev2_lt d
  · exact k0_dev1_lt d

/-- One semaphore out of the two tables of fifteen by two, the table chosen by the way the copy travels. -/
def hopSem (right left : DmaSems sig S15x2) (t : Hop) : DmaSem sig :=
  (((match wayOf t with | false => right | true => left).slice
    (Rect.unit (s := S15x2) ![(hopOf t).val, (pieceOf t).val] S1x1.size (cell_inb (hopOf t) (pieceOf t)))).squeeze S_ squeezes_S1x1_S_).sem

/-- The rows device `d` sends by the copy `t`, which are the rows it fills on the neighbour. -/
def hopRef (o : Memref sig .tc .hbm S32768x512 .f32) (d : Dev nD) (t : Hop) : Memref sig .tc .hbm S512x512 .f32 :=
  o.slice (Rect.unit (s := S32768x512) (hopOff d t) S512x512.size (hopOff_inb d t)) (fun _ => rfl)

/-- Start the copy `t` on device `d`, then go on with `k`. -/
def sendHop (o : Memref sig .tc .hbm S32768x512 .f32) (fs fr rs rr : DmaSems sig S15x2) (d : Dev nD) (t : Hop)
    (k : Prog (TpuEff nD τ sig (Elt F) Λ₀ .tc) PUnit) : Prog (TpuEff nD τ sig (Elt F) Λ₀ .tc) PUnit :=
  .op (.enqueueDma (hopRef o d t) (.remote (Dev.tc (⟨hopDev d t, hopDev_lt d t⟩ : Dev nD)) (hopRef o d t) (.dma (hopSem fs rs t)))
    (.dma (hopSem fr rr t)) (View.wordExact_bits rfl) (View.wordExact_bits rfl) ⟨⟨rfl, Or.inl rfl⟩, trivial⟩) fun _ => k

/-- Wait until the copy `t` of the neighbour has arrived on device `d`, then go on with `k`. -/
def awaitHop (o : Memref sig .tc .hbm S32768x512 .f32) (fr rr : DmaSems sig S15x2) (d : Dev nD) (t : Hop)
    (k : Prog (TpuEff nD τ sig (Elt F) Λ₀ .tc) PUnit) : Prog (TpuEff nD τ sig (Elt F) Λ₀ .tc) PUnit :=
  .op (.waitDma2 (hopSem fr rr t) (hopRef o d t) (hopRef o d t) (View.wordExact_bits rfl) (View.wordExact_bits rfl)) fun _ => k

/-- Do `f` for every copy of a list, in its order, then go on with `k`. -/
def eachHop (f : Hop → Prog (TpuEff nD τ sig (Elt F) Λ₀ .tc) PUnit → Prog (TpuEff nD τ sig (Elt F) Λ₀ .tc) PUnit) :
    List Hop → Prog (TpuEff nD τ sig (Elt F) Λ₀ .tc) PUnit → Prog (TpuEff nD τ sig (Elt F) Λ₀ .tc) PUnit
  | [], k => k
  | t :: l, k => f t (eachHop f l k)

/-- The copies that start at once: those of hop 0. -/
abbrev firsts : List Hop := (List.finRange 60).take 4
/-- The copies that pass on what has arrived. -/
abbrev laters : List Hop := (List.finRange 60).drop 4
/-- The copies whose arrival ends the gathering: those of the last hop. -/
abbrev lasts : List Hop := (List.finRange 60).drop 56
/-- The copy whose arrival the copy `t` passes on. -/
abbrev before (t : Hop) : Hop := ⟨t.val - 4, by omega⟩

/-- The kernel from its second statement on: greet both neighbours and wait for their greetings, put the device's own
    rows in place, send and pass on the pieces, wait for the last arrivals, wait for every departure. -/
def gatherFrom (x : Memref sig .tc .vmem S2048x512 .f32) (hx : x.IsWhole) (o : Memref sig .tc .hbm S32768x512 .f32)
    (fs fr rs rr : DmaSems sig S15x2) (cp : DmaSems sig S_) (d : Dev nD) : Prog (TpuEff nD τ sig (Elt F) Λ₀ .tc) PUnit :=
  (semSignalWord (⟨k0_dev1 d, k0_dev1_lt d⟩ : Dev nD) (SemArray.scalar (sig.barrier 0 rfl) : Sems sig S_).sem 1#32).bind fun _ =>
  (semSignalWord (⟨k0_dev2 d, k0_dev2_lt d⟩ : Dev nD) (SemArray.scalar (sig.barrier 0 rfl) : Sems sig S_).sem 1#32).bind fun _ =>
  (semWaitWord (SemArray.scalar (sig.barrier 0 rfl) : Sems sig S_).sem 2#32).bind fun _ =>
  .op (.enqueueDma x (.here (o.slice (Rect.unit (s := S32768x512) (k0_off1 d) S2048x512.size (k0_off1_inb d)) (fun _ => rfl))) (.dma cp.sem)
    hx.wordExact (View.wordExact_bits rfl) ⟨Or.inl rfl, trivial⟩) fun _ =>
  .op (.waitDma2 cp.sem x (o.slice (Rect.unit (s := S32768x512) (k0_off1 d) S2048x512.size (k0_off1_inb d)) (fun _ => rfl))
    hx.wordExact (View.wordExact_bits rfl)) fun _ =>
  eachHop (sendHop o fs fr rs rr d) firsts <|
  eachHop (fun t k => awaitHop o fr rr d (before t) (sendHop o fs fr rs rr d t k)) laters <|
  eachHop (awaitHop o fr rr d) lasts <|
  eachHop (awaitHop o fs rs d) (List.finRange 60) <|
  .ret ⟨⟩

set_option maxRecDepth 100000 in
set_option maxHeartbeats 4000000 in
/-- The printed kernel is the kernel written by loops over the copies. -/
theorem body_eq (x : Memref sig .tc .vmem S2048x512 .f32) (hx : x.IsWhole) (o : Memref sig .tc .hbm S32768x512 .f32) (ho : o.IsWhole)
    (fs fr rs rr : DmaSems sig S15x2) (cp : DmaSems sig S_) :
    cc0_body (F := F) x hx o ho fs fr rs rr cp = .op .deviceId fun d => gatherFrom x hx o fs fr rs rr cp d := by
  rfl

end Cert.KernelIdealProof

end
-- ==== Proof.Ideal.Rows.lean ====
/- The ring of sixteen devices, the gathered array cut into 64 blocks of 512 rows, and the views and contents of the copied pieces, at ideal floats. -/
module

public import proofs.«01_k».proof.Proof.Ideal.Hops
public import Idealize.ShloMosaic.Lib.Ring
public import Idealize.ShloMosaic.Lib.Layout
public import Idealize.ShloMosaic.Lib.Pipeline.ValueKit.Geometry

@[expose] public section

noncomputable section

namespace Cert.KernelIdealProof

open Cert.KernelIdeal Cert.KernelIdeal.Gen
open Idealize.ShloMosaic
open Idealize.ShloMosaic.TcCoe
open Idealize.SL.Sem

variable {F : FTy → Type} [FloatOps F]

/-! ## The neighbours -/

/-- The right neighbour. -/
def rgt (c : Dev nD) : Dev nD := ⟨(c.val + 1) % 16, Nat.mod_lt _ (by decide)⟩
/-- The left neighbour. -/
def lft (c : Dev nD) : Dev nD := ⟨(c.val + 15) % 16, Nat.mod_lt _ (by decide)⟩

theorem rgt_lft (c : Dev nD) : rgt (lft c) = c := Fin.ext (by have hc : c.val < 16 := c.isLt; simp only [rgt, lft]; omega)
theorem lft_rgt (c : Dev nD) : lft (rgt c) = c := Fin.ext (by have hc : c.val < 16 := c.isLt; simp only [rgt, lft]; omega)

/-- The kernel's first signal goes to the left, -/
theorem dev1_eq (c : Dev nD) : (⟨k0_dev1 c, k0_dev1_lt c⟩ : Dev nD) = lft c := Fin.ext (k0_dev1_eq c)
/-- its second to the right. -/
theorem dev2_eq (c : Dev nD) : (⟨k0_dev2 c, k0_dev2_lt c⟩ : Dev nD) = rgt c := Fin.ext (k0_dev2_eq c)

/-- Each device and its right neighbour, as a bijection. -/
def turn : Dev nD ≃ Dev nD := ⟨rgt, lft, lft_rgt, rgt_lft⟩

/-- The device the copy `t` of device `c` goes to. -/
abbrev dst (c : Dev nD) (t : Hop) : Dev nD := ⟨hopDev c t, hopDev_lt c t⟩
/-- The device whose copy `t` comes to device `c`. -/
def src (c : Dev nD) (t : Hop) : Dev nD := bif wayOf t then rgt c else lft c

theorem dst_eq (c : Dev nD) (t : Hop) : dst c t = bif wayOf t then lft c else rgt c := by
  refine Fin.ext ?_
  show hopDev c t = _
  unfold hopDev
  cases wayOf t
  · exact k0_dev2_eq c
  · exact k0_dev1_eq c

theorem dst_src (c : Dev nD) (t : Hop) : dst (src c t) t = c := by
  rw [dst_eq]; unfold src
  cases wayOf t
  · exact rgt_lft c
  · exact lft_rgt c

theorem src_dst (c : Dev nD) (t : Hop) : src (dst c t) t = c := by
  rw [dst_eq]; unfold src
  cases wayOf t
  · exact lft_rgt c
  · exact rgt_lft c

/-! ## The gathered array in 64 blocks of 512 rows -/

/-- The rows of block `b`. -/
def rows (b : Fin 64) : Finset S32768x512.Idx := Finset.univ.filter fun i => (i 0).val / 512 = b.val

theorem mem_rows {b : Fin 64} {i : S32768x512.Idx} : i ∈ rows b ↔ (i 0).val / 512 = b.val := by
  unfold rows; rw [Finset.mem_filter]; exact ⟨fun h => h.2, fun h => ⟨Finset.mem_univ _, h⟩⟩

theorem rows_disjoint (b b' : Fin 64) (h : b ≠ b') : Disjoint (rows b) (rows b') :=
  Finset.disjoint_left.mpr fun i hi hi' => h (Fin.ext ((mem_rows.mp hi).symm.trans (mem_rows.mp hi')))

/-- Block `j` of device `c`, on the numbers. -/
def blkNo (c j : Nat) : Nat := 4 * ((if j % 2 = 0 then c + 16 - j / 4 else c + j / 4) % 16) + 2 * (j % 2) + j / 2 % 2

theorem blkNo_even {c j : Nat} (h : j % 2 = 0) : blkNo c j = 4 * ((c + 16 - j / 4) % 16) + j / 2 % 2 := by
  unfold blkNo; rw [if_pos h, h]; rfl
theorem blkNo_odd {c j : Nat} (h : j % 2 = 1) : blkNo c j = 4 * ((c + j / 4) % 16) + 2 + j / 2 % 2 := by
  unfold blkNo; rw [if_neg (by omega), h]

theorem blkNo_lt (c j : Nat) : blkNo c j < 64 := by
  rcases Nat.mod_two_eq_zero_or_one j with h | h
  · rw [blkNo_even h]; omega
  · rw [blkNo_odd h]; omega

theorem blkNo_inj {c j j' : Nat} (hc : c < 16) (hj : j < 64) (hj' : j' < 64) (h : blkNo c j = blkNo c j') : j = j' := by
  rcases Nat.mod_two_eq_zero_or_one j with hp | hp <;> rcases Nat.mod_two_eq_zero_or_one j' with hp' | hp'
  · rw [blkNo_even hp, blkNo_even hp'] at h; omega
  · rw [blkNo_even hp, blkNo_odd hp'] at h; omega
  · rw [blkNo_odd hp, blkNo_even hp'] at h; omega
  · rw [blkNo_odd hp, blkNo_odd hp'] at h; omega

/-- A device's first four blocks are its own rows. -/
theorem blkNo_own {c j : Nat} (hc : c < 16) (hj : j < 64) : blkNo c j / 4 = c ↔ j < 4 := by
  rcases Nat.mod_two_eq_zero_or_one j with hp | hp
  · rw [blkNo_even hp]; omega
  · rw [blkNo_odd hp]; omega

theorem blkNo_right {c j : Nat} (hc : c < 16) (hj : j < 60) (hp : j % 2 = 0) : blkNo ((c + 1) % 16) (j + 4) = blkNo c j := by
  rw [blkNo_even hp, blkNo_even (by omega)]; omega
theorem blkNo_left {c j : Nat} (hc : c < 16) (hj : j < 60) (hp : j % 2 = 1) : blkNo ((c + 15) % 16) (j + 4) = blkNo c j := by
  rw [blkNo_odd hp, blkNo_odd (by omega)]; omega

/-- The block of the array that is device `c`'s `j`-th: its own four, then what the copies bring it, in their order. -/
def blk (c : Dev nD) (j : Fin 64) : Fin 64 := ⟨blkNo c.val j.val, blkNo_lt _ _⟩

theorem blk_injective (c : Dev nD) : Function.Injective (blk c) := fun j j' h =>
  Fin.ext (blkNo_inj c.isLt j.isLt j'.isLt (congrArg Fin.val h))

theorem blk_surjective (c : Dev nD) : Function.Surjective (blk c) := Finite.injective_iff_surjective.mp (blk_injective c)

theorem blk_rows_disjoint (c : Dev nD) (j j' : Fin 64) (h : j ≠ j') : Disjoint (rows (blk c j)) (rows (blk c j')) :=
  rows_disjoint _ _ fun h' => h (blk_injective c h')

theorem blk_rows_cover (c : Dev nD) : Finset.univ.biUnion (fun j : Fin 64 => rows (blk c j)) = Finset.univ := by
  refine Finset.eq_univ_iff_forall.mpr fun i => Finset.mem_biUnion.mpr ?_
  have hi : (i 0).val < 32768 := (i 0).isLt
  obtain ⟨j, hj⟩ := blk_surjective c ⟨(i 0).val / 512, by omega⟩
  exact ⟨j, Finset.mem_univ _, mem_rows.mpr (by rw [hj])⟩

/-- The block the copy `t` takes from its device; -/
abbrev low (t : Hop) : Fin 64 := ⟨t.val, by omega⟩
/-- the block it brings. -/
abbrev high (t : Hop) : Fin 64 := ⟨t.val + 4, by omega⟩

/-- A copy travels to the right if its number is even, -/
theorem way_even {t : Hop} (h : t.val % 2 = 0) : wayOf t = false := by unfold wayOf; rw [h]; rfl
/-- to the left if it is odd. -/
theorem way_odd {t : Hop} (h : t.val % 2 = 1) : wayOf t = true := by unfold wayOf; rw [h]; rfl

/-- What a copy takes from its device's blocks is what it brings its target. -/
theorem blk_dst (c : Dev nD) (t : Hop) : blk (dst c t) (high t) = blk c (low t) := by
  rw [dst_eq]
  rcases Nat.mod_two_eq_zero_or_one t.val with h | h
  · rw [way_even h]; exact Fin.ext (blkNo_right c.isLt t.isLt h)
  · rw [way_odd h]; exact Fin.ext (blkNo_left c.isLt t.isLt h)

theorem blk_src (c : Dev nD) (t : Hop) : blk (src c t) (low t) = blk c (high t) := by
  rw [← blk_dst, dst_src]

/-! ## The views of the kernel -/

/-- The gathered array, -/
abbrev oM : Memref sig .tc .hbm S32768x512 .f32 := Memref.whole main_v1
/-- the staged argument, -/
abbrev xM : Memref sig .tc .vmem S2048x512 .f32 := Memref.whole cc0_stg0_0
/-- the rows of the gathered array for the device's own argument, -/
abbrev ownRef (d : Dev nD) : Memref sig .tc .hbm S2048x512 .f32 :=
  oM.slice (Rect.unit (s := S32768x512) (k0_off1 d) S2048x512.size (k0_off1_inb d)) (fun _ => rfl)
/-- the rows of a copy. -/
abbrev pieceRef (d : Dev nD) (t : Hop) : Memref sig .tc .hbm S512x512 .f32 := hopRef oM d t

theorem hopOff_eq (d : Dev nD) (t : Hop) : hopOff d t = ![512 * (blk d (low t)).val, 0] := by
  unfold hopOff
  rcases Nat.mod_two_eq_zero_or_one t.val with h | h
  · rw [way_even h]
    refine (k0_off2_eq d (hopOf t) (pieceOf t)).trans ?_
    congr 1
    refine Eq.trans ?_ (congrArg (512 * ·) (blkNo_even h).symm)
    show 2048 * (((d.val + 16) - t.val / 4) % 16) + 512 * (t.val / 2 % 2) = 512 * (4 * ((d.val + 16 - t.val / 4) % 16) + t.val / 2 % 2)
    omega
  · rw [way_odd h]
    refine (k0_off3_eq d (hopOf t) (pieceOf t)).trans ?_
    congr 1
    refine Eq.trans ?_ (congrArg (512 * ·) (blkNo_odd h).symm)
    show 2048 * ((d.val + t.val / 4) % 16) + 512 * (t.val / 2 % 2) + 1024 = 512 * (4 * ((d.val + t.val / 4) % 16) + 2 + t.val / 2 % 2)
    omega

theorem piece_rect (d : Dev nD) (t : Hop) :
    (Rect.unit (s := S32768x512) (hopOff d t) S512x512.size (hopOff_inb d t)).set = rows (blk d (low t)) := by
  refine Finset.ext fun i => ?_
  rw [Rect.mem_set_unit, mem_rows, hopOff_eq]
  have h1 : (i 1).val < 512 := (i 1).isLt
  constructor
  · intro h
    have h0 : 512 * (blk d (low t)).val ≤ (i 0).val ∧ (i 0).val < 512 * (blk d (low t)).val + 512 := h 0
    omega
  · intro h a
    match a with
    | ⟨0, _⟩ =>
      show 512 * (blk d (low t)).val ≤ (i 0).val ∧ (i 0).val < 512 * (blk d (low t)).val + 512
      omega
    | ⟨1, _⟩ =>
      show 0 ≤ (i 1).val ∧ (i 1).val < 0 + 512
      omega

/-- The rows of a copy are a block. -/
theorem pieceRef_set (d : Dev nD) (t : Hop) : (pieceRef d t).view.set = rows (blk d (low t)) :=
  (View.set_slice_whole main_v1 _).trans (piece_rect d t)

theorem own_rect (d : Dev nD) :
    (Rect.unit (s := S32768x512) (k0_off1 d) S2048x512.size (k0_off1_inb d)).set
      = Finset.univ.biUnion (fun j : Fin 4 => rows (blk d ⟨j.val, by omega⟩)) := by
  refine Finset.ext fun i => ?_
  rw [Rect.mem_set_unit, k0_off1_eq, Finset.mem_biUnion]
  have h1 : (i 1).val < 512 := (i 1).isLt
  have hi : (i 0).val < 32768 := (i 0).isLt
  have hd : d.val < 16 := d.isLt
  constructor
  · intro h
    have h0 : 2048 * d.val ≤ (i 0).val ∧ (i 0).val < 2048 * d.val + 2048 := h 0
    obtain ⟨j, hj⟩ := blk_surjective d ⟨(i 0).val / 512, by omega⟩
    have hv : blkNo d.val j.val = (i 0).val / 512 := congrArg Fin.val hj
    exact ⟨⟨j.val, (blkNo_own hd j.isLt).mp (by omega)⟩, Finset.mem_univ _, mem_rows.mpr hv.symm⟩
  · rintro ⟨j, -, hj⟩
    have hv : (i 0).val / 512 = blkNo d.val j.val := mem_rows.mp hj
    have hq := (blkNo_own hd (show j.val < 64 by omega)).mpr j.isLt
    intro a
    match a with
    | ⟨0, _⟩ =>
      show 2048 * d.val ≤ (i 0).val ∧ (i 0).val < 2048 * d.val + 2048
      omega
    | ⟨1, _⟩ =>
      show 0 ≤ (i 1).val ∧ (i 1).val < 0 + 512
      omega

/-- The device's own rows are its first four blocks. -/
theorem ownRef_set (d : Dev nD) :
    Finset.univ.biUnion (fun j : Fin 4 => rows (blk d ⟨j.val, by omega⟩)) = (ownRef d).view.set :=
  ((View.set_slice_whole main_v1 _).trans (own_rect d)).symm

/-! ## The contents -/

variable (m : (ℓ : Loc nD τ sig) → Buf (Elt F) ℓ)

/-- What every device's array holds in the end: row `r` is row `r % 2048` of the argument of device `r / 2048`. -/
def gath : S32768x512.Idx → Elt F .f32 := fun i =>
  m (((⟨(i 0).val / 2048, Nat.div_lt_of_lt_mul (i 0).isLt⟩ : Dev nD) : Thread nD τ).loc main_arg0)
    (Shape.pair (d := ![2048, 512]) ⟨(i 0).val % 2048, Nat.mod_lt _ (by decide)⟩ ⟨(i 1).val, (i 1).isLt⟩)

/-- The gathered array, cut as the arguments are, is the arguments. -/
theorem gath_at (d : Dev nD) (i : S32768x512.Idx) (j : S2048x512.Idx) (h0 : (i 0).val = 2048 * d.val + (j 0).val) (h1 : (i 1).val = (j 1).val) :
    gath m i = m ((d : Thread nD τ).loc main_arg0) j := by
  have hj : (j 0).val < 2048 := (j 0).isLt
  have hd : (⟨(i 0).val / 2048, Nat.div_lt_of_lt_mul (i 0).isLt⟩ : Dev nD) = d := Fin.ext (by show (i 0).val / 2048 = d.val; have hd : d.val < 16 := d.isLt; omega)
  unfold gath
  rw [hd]
  refine congrArg _ (funext fun a => Fin.ext ?_)
  match a with
  | ⟨0, _⟩ => show (i 0).val % 2048 = (j 0).val; omega
  | ⟨1, _⟩ => exact h1

/-- If the arguments are the sixteen blocks of one array, the gathered array is that array. -/
theorem gath_of_blocks (v : S32768x512.Idx → Elt F .f32)
    (h : ∀ c : Dev nD, m ((c : Thread nD τ).loc main_arg0) = Layout.block ⟨2, ![2048, 512]⟩ ⟨2, ![32768, 512]⟩ 0 16 c v) :
    gath m = v := by
  funext i
  have hi : (i 0).val < 32768 := (i 0).isLt
  rw [gath_at m ⟨(i 0).val / 2048, Nat.div_lt_of_lt_mul (i 0).isLt⟩ i
    (Shape.pair (d := ![2048, 512]) ⟨(i 0).val % 2048, Nat.mod_lt _ (by decide)⟩ ⟨(i 1).val, (i 1).isLt⟩)
    (by show (i 0).val = 2048 * ((i 0).val / 2048) + (i 0).val % 2048; omega) rfl, h, Layout.block_apply]
  refine congrArg v (funext fun a => Fin.ext ?_)
  match a with
  | ⟨0, _⟩ => show (i 0).val / 2048 * 2048 + (i 0).val % 2048 = (i 0).val; omega
  | ⟨1, _⟩ => rfl

/-- What the pipeline stages of device `c`'s argument: all of it. -/
def staged (c : Dev nD) : (cc0_stg0_0 : Ref sig .tc).ty.Contents (Elt F) :=
  (win0_0.blk (0 : Fin 1)).view.read (Elt F) (m ((c : Thread nD τ).loc main_arg0))

theorem staged_eq (c : Dev nD) : staged m c = m ((c : Thread nD τ).loc main_arg0) := by
  funext j
  unfold staged
  rw [View.read_apply]
  refine congrArg (m ((c : Thread nD τ).loc main_arg0)) (funext fun a => Fin.ext ?_)
  refine (ValueKit.view_emb_slice_whole_unit_val main_arg0 _ _ _ j a).trans ?_
  match a with
  | ⟨0, _⟩ => exact Nat.zero_add _
  | ⟨1, _⟩ => exact Nat.zero_add _

/-- Copying the rows of a piece of the gathered array over any contents leaves the gathered array on those rows. -/
theorem piece_lands (c : Dev nD) (t : Hop) (fd : S32768x512.Idx → Elt F .f32) (i : S32768x512.Idx) (hi : i ∈ rows (blk c (low t))) :
    (pieceRef c t).view.write (Elt F) fd ((pieceRef c t).view.read (Elt F) (gath m)) Finset.univ i = gath m i := by
  rw [← pieceRef_set] at hi
  obtain ⟨j, -, rfl⟩ := Finset.mem_map.mp hi
  exact (View.write_emb_of_mem (v := (pieceRef c t).view) _ _ (Finset.mem_univ j)).trans rfl

/-- Copying the staged argument into the device's own rows leaves the gathered array on those rows. -/
theorem own_lands (c : Dev nD) (fd : S32768x512.Idx → Elt F .f32) (i : S32768x512.Idx) (hi : i ∈ (ownRef c).view.set) :
    (ownRef c).view.write (Elt F) fd (xM.view.read (Elt F) (staged m c)) Finset.univ i = gath m i := by
  obtain ⟨j, -, rfl⟩ := Finset.mem_map.mp hi
  refine (View.write_emb_of_mem (v := (ownRef c).view) _ _ (Finset.mem_univ j)).trans ?_
  refine (congrFun (staged_eq m c) j).trans (Eq.symm (gath_at m c _ j ?_ ?_))
  · exact (ValueKit.view_emb_slice_whole_unit_val main_v1 _ _ _ j 0).trans
      (congrArg (· + (j 0).val) (congrFun (k0_off1_eq c) 0))
  · exact (ValueKit.view_emb_slice_whole_unit_val main_v1 _ _ _ j 1).trans
      ((congrArg (· + (j 1).val) (congrFun (k0_off1_eq c) 1)).trans (Nat.zero_add _))

end Cert.KernelIdealProof

end
-- ==== Proof.Ideal.Plan.lean ====
/- The protocol: for every semaphore who pays it, how much, what is handed over with it, and in what order the devices wait, at ideal floats. -/
module

public import proofs.«01_k».proof.Proof.Ideal.Rows

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds beside the gathering's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The semaphores of a device -/

/-- The semaphores of the kernel's own: that of the local copy, then, for every copy, that of its departure and that of
    its arrival. -/
abbrev Own : Type := Unit ⊕ (Hop ⊕ Hop)
/-- With the barrier's, all the semaphores the gathering uses. -/
abbrev Spot : Type := Unit ⊕ Own

/-- The runtime's barrier semaphore, -/
abbrev barS : Sem sig := (SemArray.scalar (sig.barrier 0 rfl) : Sems sig S_).sem
/-- the semaphore of the local copy, -/
abbrev copyS : DmaSem sig := cc0_scratch4.sem
/-- that of a copy's departure, -/
abbrev sendS (t : Hop) : DmaSem sig := hopSem cc0_scratch0 cc0_scratch2 t
/-- that of its arrival. -/
abbrev recvS (t : Hop) : DmaSem sig := hopSem cc0_scratch1 cc0_scratch3 t

abbrev barCell (c : Dev nD) : GSem nD τ sig := ((c : Thread nD τ), .reg barS)
abbrev copyCell (c : Dev nD) : GSem nD τ sig := ((c : Thread nD τ), .dma copyS)
abbrev sendCell (c : Dev nD) (t : Hop) : GSem nD τ sig := ((c : Thread nD τ), .dma (sendS t))
abbrev recvCell (c : Dev nD) (t : Hop) : GSem nD τ sig := ((c : Thread nD τ), .dma (recvS t))

/-- The kernel's own semaphores, as the launch names them; -/
abbrev osem : Own → SemLoc sig
  | .inl _ => .dma copyS
  | .inr (.inl t) => .dma (sendS t)
  | .inr (.inr t) => .dma (recvS t)
/-- all of the gathering's. -/
abbrev csem : Spot → SemLoc sig
  | .inl _ => .reg barS
  | .inr k => osem k
abbrev kcell (ck : Dev nD × Spot) : GSem nD τ sig := ((ck.1 : Thread nD τ), csem ck.2)

/-- The copy a semaphore number belongs to. -/
abbrev hopNo (n : Nat) : Hop := ⟨(2 * ((n - 1) % 30) + (n - 1) / 60) % 60, Nat.mod_lt _ (by decide)⟩

/-- What the gathering uses a semaphore for; the pipeline's own it does not use. -/
def spotOf : SemLoc sig → Option Spot
  | .reg s => if s = barS then some (.inl ()) else none
  | .dma n =>
    if n.val = 0 then none
    else if n.val = 121 then some (.inr (.inl ()))
    else if (n.val - 1) / 30 % 2 = 0 then some (.inr (.inr (.inl (hopNo n.val))))
    else some (.inr (.inr (.inr (hopNo n.val))))

theorem spot_send : ∀ t : Hop, spotOf (.dma (sendS t)) = some (.inr (.inr (.inl t))) := by decide +kernel
theorem spot_recv : ∀ t : Hop, spotOf (.dma (recvS t)) = some (.inr (.inr (.inr t))) := by decide +kernel
theorem spot_copy : spotOf (.dma copyS) = some (.inr (.inl ())) := by decide
theorem spot_bar : spotOf (.reg barS) = some (.inl ()) := by decide

theorem spot_csem (s : Spot) : spotOf (csem s) = some s := by
  rcases s with _ | _ | t | t
  · exact spot_bar
  · exact spot_copy
  · exact spot_send t
  · exact spot_recv t

theorem csem_injective : Function.Injective csem := fun s s' h =>
  Option.some.inj ((spot_csem s).symm.trans ((congrArg spotOf h).trans (spot_csem s')))

theorem kcell_injective : Function.Injective (kcell : Dev nD × Spot → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## What the semaphores carry -/

/-- The credit of one copied piece; -/
def N : ℕ := (pieceRef 0 0).view.dmaCredit
/-- that of the device's own rows. -/
def NC : ℕ := (ownRef 0).view.dmaCredit
theorem N_pos : 0 < N := by unfold N; exact View.dmaCredit_pos _ (by decide)
theorem NC_pos : 0 < NC := by unfold NC; exact View.dmaCredit_pos _ (by decide)

/-- All copies credit the same; -/
theorem credit_piece (c : Dev nD) (t : Hop) : (pieceRef c t).view.dmaCredit = N := by unfold N View.dmaCredit; rfl
/-- so do all local copies. -/
theorem credit_own (c : Dev nD) : (ownRef c).view.dmaCredit = NC := by unfold NC View.dmaCredit; rfl

/-- Block `b` of device `c`'s array, at contents `f`. -/
def part (c : Dev nD) (b : Fin 64) (f : S32768x512.Idx → Elt F .f32) : sProp 𝕄 :=
  (c : Thread nD τ).loc main_v1 ↦[rows b]{fullShare} f
/-- The room the copy `t` of device `c` lands in. -/
def room (c : Dev nD) (t : Hop) : sProp 𝕄 := iprop(∃ f, part (dst c t) (blk c (low t)) f)
/-- The room for all of device `c`'s copies that go one way. -/
def rooms (c : Dev nD) (w : Bool) : sProp 𝕄 := bigSep (Finset.univ.filter fun t : Hop => wayOf t = w) (room c)
/-- Device `c`'s own rows, in place, and the staged argument they were copied from. -/
def ownPay (c : Dev nD) : sProp 𝕄 :=
  iprop(((c : Thread nD τ).loc main_v1 ↦[(ownRef c).view.set]{fullShare} gath m)
    ∗ ((c : Thread nD τ).loc cc0_stg0_0 ↦[xM.view.set]{fullShare} staged m c))

instance part_storable (c : Dev nD) (b : Fin 64) (f) : BI.Storable (upEmb : UEmb _ 𝕄) (part (F := F) c b f) := by unfold part; infer_instance
instance room_storable (c : Dev nD) (t : Hop) : BI.Storable (upEmb : UEmb _ 𝕄) (room (F := F) c t) := by unfold room; infer_instance
instance rooms_storable (c : Dev nD) (w : Bool) : BI.Storable (upEmb : UEmb _ 𝕄) (rooms (F := F) c w) := by unfold rooms; infer_instance
instance ownPay_storable (c : Dev nD) : BI.Storable (upEmb : UEmb _ 𝕄) (ownPay (F := F) m c) := by unfold ownPay; infer_instance

/-- What a unit or a copy's credit hands over with it: a greeting the room for the copies that way; the local copy the own
    rows; a departure the block sent; an arrival the block brought. -/
def carries (c : Dev nD) (d : Bool) : Option Spot → sProp 𝕄
  | none => iprop(emp)
  | some (.inl _) => rooms c d
  | some (.inr (.inl _)) => ownPay m c
  | some (.inr (.inr (.inl t))) => part c (blk c (low t)) (gath m)
  | some (.inr (.inr (.inr t))) => part c (blk c (high t)) (gath m)

/-- Who pays a semaphore: the barrier both neighbours, `false` standing for the right one and `true` for the left; every
    other one copy. -/
def payers : Option Spot → Finset Bool
  | none => ∅
  | some (.inl _) => Finset.univ
  | some (.inr _) => {false}

/-- How much each pays. -/
def price : Option Spot → ℕ
  | some (.inl _) => 1
  | some (.inr (.inl _)) => NC
  | _ => N

theorem price_pos (s : Option Spot) : 0 < price s := by
  unfold price
  split
  · exact Nat.one_pos
  · exact NC_pos
  · exact N_pos

instance carries_storable (c : Dev nD) (d : Bool) (s : Option Spot) : BI.Storable (upEmb : UEmb _ 𝕄) (carries (F := F) m c d s) := by
  rcases s with _ | _ | _ | _ | _ <;> unfold carries <;> infer_instance

/-- One round for every semaphore of the gathering. -/
def plan : Rounds.Schedule (GSem nD τ sig) Bool 𝕄 where
  duties g r := if r = 0 ∧ g.1.2 = .tc then payers (spotOf g.2) else ∅
  unitless _ := False
  amount g _ _ := price (spotOf g.2)
  payload g _ d := carries m g.1.1 d (spotOf g.2)
  amount_pos g _ _ _ := price_pos _

instance plan_storable (g : GSem nD τ sig) (r : ℕ) (d : Bool) : BI.Storable (upEmb : UEmb _ 𝕄) ((plan (F := F) m).payload g r d) :=
  carries_storable m g.1.1 d (spotOf g.2)

section Facts
variable (c : Dev nD) (t : Hop)

omit [FloatOps F] in
theorem duties_at (s : Spot) : (plan (F := F) m).duties (kcell (c, s)) 0 = payers (some s) := by
  dsimp only [plan]; rw [if_pos ⟨rfl, rfl⟩, spot_csem]
omit [FloatOps F] in
theorem duties_later (g : GSem nD τ sig) : ∀ r, 1 ≤ r → (plan (F := F) m).duties g r = ∅ :=
  fun r hr => by dsimp only [plan]; rw [if_neg fun h => by omega]
omit [FloatOps F] in
theorem amount_at (s : Spot) (d : Bool) : (plan (F := F) m).amount (kcell (c, s)) 0 d = price (some s) := by
  dsimp only [plan]; rw [spot_csem]
omit [FloatOps F] in
theorem payload_at (s : Spot) (d : Bool) : (plan (F := F) m).payload (kcell (c, s)) 0 d = carries m c d (some s) := by
  dsimp only [plan]; rw [spot_csem]

omit [FloatOps F] in
/-- The barrier expects a unit of each neighbour; -/
theorem expect_bar : (plan (F := F) m).expect (barCell c) 0 = 2 := by
  unfold Schedule.expect Schedule.amountOf
  rw [duties_at m c (.inl ()), Finset.sum_congr rfl fun d _ => amount_at m c (.inl ()) d]
  rfl
omit [FloatOps F] in
/-- every other semaphore one copy's credit. -/
theorem expect_own (k : Own) : (plan (F := F) m).expect (kcell (c, .inr k)) 0 = price (some (.inr k)) := by
  unfold Schedule.expect Schedule.amountOf
  rw [duties_at m c (.inr k)]
  exact (Finset.sum_singleton _ _).trans (amount_at m c (.inr k) false)

omit [FloatOps F] in
/-- The barrier's round hands over the room on both neighbours; -/
theorem rest_bar : bigSep ((plan (F := F) m).duties (barCell c) 0 \ ∅) (fun d => (plan (F := F) m).payload (barCell c) 0 d)
    = iprop(rooms c false ∗ rooms c true) := by
  rw [Finset.sdiff_empty, duties_at m c (.inl ())]
  refine (bigSep_univ_eq_bigSepL [false, true] (by decide) (by decide) _).trans ?_
  rw [bigSepL_cons_cons, bigSepL_singleton, payload_at m c (.inl ()), payload_at m c (.inl ())]
  rfl
omit [FloatOps F] in
/-- every other what its one copy hands over. -/
theorem rest_own (k : Own) : bigSep ((plan (F := F) m).duties (kcell (c, .inr k)) 0 \ ∅) (fun d => (plan (F := F) m).payload (kcell (c, .inr k)) 0 d)
    = carries m c false (some (.inr k)) := by
  rw [Finset.sdiff_empty, duties_at m c (.inr k)]
  exact bigSep_singleton.trans (payload_at m c (.inr k) false)

end Facts

/-! ## What a device owes -/

/-- What device `c` owes for the copies of a list: each one's credit to its target. -/
def owedFor (c : Dev nD) (l : List Hop) : CellTallies nD τ sig Unit := (l.map fun t => tallyAt (recvCell (dst c t) t) () N).sum

theorem owedFor_nil (c : Dev nD) : owedFor c [] = 0 := rfl
theorem owedFor_cons (c : Dev nD) (t : Hop) (l : List Hop) : owedFor c (t :: l) = owedFor c l + tallyAt (recvCell (dst c t) t) () N := by
  unfold owedFor; rw [List.map_cons, List.sum_cons, add_comm]

/-- After its first greeting, a device owes one to the right and all its copies; -/
def O₁ (c : Dev nD) : CellTallies nD τ sig Unit := owedFor c (List.finRange 60) + tallyAt (barCell (rgt c)) () 1
/-- at the launch one to the left besides. -/
def O₀ (c : Dev nD) : CellTallies nD τ sig Unit := O₁ c + tallyAt (barCell (lft c)) () 1

theorem pos_add {A : CellTallies nD τ sig Unit} {g₀ g : GSem nD τ sig} {n : ℕ} {u : Unit}
    (h : 0 < (A + tallyAt g₀ () n) g u) : 0 < A g u ∨ g = g₀ := by
  rw [Pi.add_apply, Finsupp.add_apply, tallyAt_apply] at h
  by_cases hg : g = g₀ ∧ u = ()
  · exact .inr hg.1
  · rw [if_neg hg] at h; exact .inl h

theorem owedFor_pos {c : Dev nD} {l : List Hop} {g : GSem nD τ sig} {u : Unit} (h : 0 < owedFor c l g u) :
    ∃ t ∈ l, g = recvCell (dst c t) t := by
  induction l with
  | nil => exact absurd h (Nat.lt_irrefl 0)
  | cons t l ih =>
    rw [owedFor_cons] at h
    rcases pos_add h with h | h
    · obtain ⟨t', ht', e⟩ := ih h
      exact ⟨t', List.mem_cons_of_mem _ ht', e⟩
    · exact ⟨t, List.mem_cons_self, h⟩

theorem O₀_pos {c : Dev nD} {g : GSem nD τ sig} {u : Unit} (h : 0 < O₀ c g u) :
    (∃ t, g = recvCell (dst c t) t) ∨ ∃ d, g = barCell d := by
  unfold O₀ O₁ at h
  rcases pos_add h with h | h
  · rcases pos_add h with h | h
    · obtain ⟨t, -, e⟩ := owedFor_pos h
      exact .inl ⟨t, e⟩
    · exact .inr ⟨_, h⟩
  · exact .inr ⟨_, h⟩

/-! ## The order of the waits -/

/-- What may be owed to a cell: something only to a cell of a device's core. -/
def L (g : GSem nD τ sig) : Finset Unit := if g.1.2 = .tc then {()} else ∅
/-- The barrier comes before every arrival, and the arrivals in the order of their copies. -/
def rank : Option Spot → ℕ
  | some (.inl _) => 1
  | some (.inr (.inr (.inr t))) => 2 + t.val
  | _ => 0
def lv (g : GSem nD τ sig) (_ : Unit) : ℕ := rank (spotOf g.2)

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by rw [L_tc]; exact Finset.mem_singleton_self _
theorem lv_at (c : Dev nD) (s : Spot) (u : Unit) : lv (kcell (c, s)) u = rank (some s) := by unfold lv; rw [spot_csem]

/-- That order, as known to every device. -/
def order : sProp 𝕄 := levAts L lv
instance order_persistent : BI.Persistent (order (F := F)) := by unfold order; infer_instance

omit [FloatOps F] in
/-- A device owing only copies of a list may wait on a semaphore that ranks below all of them. -/
theorem mayWait_below (c : Dev nD) (sm : SemLoc sig) (l : List Hop) (h : ∀ t ∈ l, rank (spotOf sm) < 2 + t.val) :
    order (F := F) ⊢ MayWait (c : Thread nD τ) sm () (owedFor c l) :=
  MayOwe.of_cut (L := L) (lev := lv) (rank (spotOf sm)) (fun p hp => by rw [Finset.mem_singleton.mp hp]; exact mem_L c sm ())
    (fun g u hg => by obtain ⟨t, -, rfl⟩ := owedFor_pos hg; exact mem_L _ _ _)
    (fun p hp => by rw [Finset.mem_singleton.mp hp]; exact Nat.le_refl _)
    (fun g u hg => by
      obtain ⟨t, ht, rfl⟩ := owedFor_pos hg
      rw [lv_at (dst c t) (.inr (.inr (.inr t)))]
      exact h t ht)

omit [FloatOps F] in
/-- The pipeline may wait for its staging copies, at the launch and after the kernel. -/
theorem mayWait_stage (c : Dev nD) (q : DmaSem sig) (hq : spotOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L c _ ())
      (fun g u hg => by rcases O₀_pos hg with ⟨t, rfl⟩ | ⟨d, rfl⟩ <;> exact mem_L _ _ _)
      (fun p hp => by rw [Finset.mem_singleton.mp hp]; unfold lv; rw [hq]; exact Nat.le_refl _)
      (fun g u hg => by
        rcases O₀_pos hg with ⟨t, rfl⟩ | ⟨d, rfl⟩
        · rw [lv_at (dst c t) (.inr (.inr (.inr t)))]; exact Nat.lt_of_lt_of_le Nat.two_pos (Nat.le_add_right _ _)
        · rw [lv_at d (.inl ())]; exact Nat.one_pos)
  · rw [MayWait_zero]; iintro -; iempintro

end Cert.KernelIdealProof

end
-- ==== Proof.Ideal.Walk.lean ====
/- The steps of the protocol: how one remote copy starts, arrives and has left, and what each of them takes and gives, at ideal floats. -/
module

public import proofs.«01_k».proof.Proof.Ideal.Plan

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- All copies, in their order. -/
abbrev hops : List Hop := List.finRange 60

/-! ## Chains over lists of copies -/

omit [FloatOps F] in
/-- A chain over all of a finite type is a chain over its list. -/
theorem bigSep_fin (n : ℕ) (Φ : Fin n → sProp 𝕄) : bigSep Finset.univ Φ = bigSepL (List.finRange n) Φ :=
  bigSep_univ_eq_bigSepL (List.finRange n) (List.toFinset_finRange n).symm (List.nodup_finRange n) Φ

omit [FloatOps F] in
/-- Two chains over one list are one chain. -/
theorem zip (l : List Hop) (Φ Ψ : Hop → sProp 𝕄) : iprop(bigSepL l Φ ∗ bigSepL l Ψ) ⊢ bigSepL l fun t => iprop(Φ t ∗ Ψ t) := by
  induction l with
  | nil => iintro -; exact .rfl
  | cons t l ih =>
    rw [bigSepL_cons', bigSepL_cons', bigSepL_cons']
    iintro ⟨⟨Ht, Hl⟩, Gt, Gl⟩
    isplitl [Ht Gt]
    · isplitl [Ht] <;> iassumption
    · iapply ih
      isplitl [Hl] <;> iassumption

omit [FloatOps F] in
/-- One chain of pairs is two chains. -/
theorem unzip (l : List Hop) (Φ Ψ : Hop → sProp 𝕄) : (bigSepL l fun t => iprop(Φ t ∗ Ψ t)) ⊢ iprop(bigSepL l Φ ∗ bigSepL l Ψ) := by
  induction l with
  | nil => iintro -; isplitl [] <;> exact .rfl
  | cons t l ih =>
    rw [bigSepL_cons', bigSepL_cons', bigSepL_cons']
    iintro ⟨⟨Ht, Gt⟩, H⟩
    ihave H' := ih $$ H
    icases H' with ⟨Hl, Gl⟩
    isplitl [Ht Hl]
    · isplitl [Ht] <;> iassumption
    · isplitl [Gt] <;> iassumption

theorem hops_split : hops = firsts ++ laters := (List.take_append_drop 4 hops).symm
theorem before_laters : laters.map before = hops.take 56 := by decide
theorem hops_split' : hops = laters.map before ++ lasts := by rw [before_laters]; exact (List.take_append_drop 56 hops).symm
theorem blocks_in : List.finRange 64 = firsts.map low ++ hops.map high := by decide
theorem blocks_out : List.finRange 64 = hops.map low ++ lasts.map high := by decide
theorem firsts_eq : firsts = (List.finRange 4).map fun j => (⟨j.val, by omega⟩ : Hop) := by decide
theorem laters_sorted : laters.Pairwise (· < ·) := by decide
theorem laters_ge : ∀ t ∈ laters, 4 ≤ t.val := by decide

/-! ## The gathered array in pieces -/

omit [FloatOps F] in
theorem whole_eq (c : Dev nD) (f : S32768x512.Idx → Elt F .f32) :
    ((c : Thread nD τ).loc main_v1 ↦{fullShare} f : sProp 𝕄) = bigSepL (List.finRange 64) fun j => part c (blk c j) f :=
  (Ring.pointsTo_blocks (ℓ := (c : Thread nD τ).loc main_v1) (fun j : Fin 64 => rows (blk c j)) (blk_rows_disjoint c) (blk_rows_cover c) f).trans
    (bigSep_fin 64 _)

omit [FloatOps F] in
/-- A device's own rows are the blocks its first copies take. -/
theorem own_eq (c : Dev nD) (f : S32768x512.Idx → Elt F .f32) :
    ((c : Thread nD τ).loc main_v1 ↦[(ownRef c).view.set]{fullShare} f : sProp 𝕄) = bigSepL firsts fun t => part c (blk c (low t)) f := by
  rw [firsts_eq, bigSepL_map]
  exact (Ring.pointsTo_sub_blocks (ℓ := (c : Thread nD τ).loc main_v1) (fun j : Fin 4 => rows (blk c ⟨j.val, by omega⟩))
    (fun j j' h => blk_rows_disjoint c _ _ fun h' => h (Fin.ext (congrArg (fun i : Fin 64 => i.val) h'))) (ownRef c).view.set (ownRef_set c) f).trans (bigSep_fin 4 _)

omit [FloatOps F] in
/-- All copies are those to the right and those to the left. -/
theorem both_ways (Φ : Hop → sProp 𝕄) : bigSep Finset.univ Φ
    = iprop(bigSep (Finset.univ.filter fun t : Hop => wayOf t = false) Φ ∗ bigSep (Finset.univ.filter fun t : Hop => wayOf t = true) Φ) := by
  have hd : Disjoint (Finset.univ.filter fun t : Hop => wayOf t = false) (Finset.univ.filter fun t : Hop => wayOf t = true) := by
    rw [Finset.disjoint_filter]; intro t _ h h'; rw [h] at h'; exact Bool.noConfusion h'
  have hu : (Finset.univ : Finset Hop) = (Finset.univ.filter fun t : Hop => wayOf t = false) ∪ (Finset.univ.filter fun t : Hop => wayOf t = true) := by
    refine Finset.ext fun t => ⟨fun _ => ?_, fun _ => Finset.mem_univ _⟩
    cases h : wayOf t
    · exact Finset.mem_union_left _ (Finset.mem_filter.mpr ⟨Finset.mem_univ _, h⟩)
    · exact Finset.mem_union_right _ (Finset.mem_filter.mpr ⟨Finset.mem_univ _, h⟩)
  exact (congrArg (fun s => bigSep s Φ) hu).trans (bigSep_union hd)

omit [FloatOps F] in
/-- The room on both neighbours is the room of all copies. -/
theorem rooms_eq (c : Dev nD) : iprop(rooms (F := F) c false ∗ rooms c true) = bigSepL hops (room c) := by
  rw [← bigSep_fin 60]; exact (both_ways _).symm

omit [FloatOps F] in
/-- A whole array is the device's own rows and the room its neighbours' copies land in. -/
theorem whole_rooms (c : Dev nD) (f : S32768x512.Idx → Elt F .f32) :
    ((c : Thread nD τ).loc main_v1 ↦{fullShare} f : sProp 𝕄)
      ⊢ iprop(((c : Thread nD τ).loc main_v1 ↦[(ownRef c).view.set]{fullShare} f) ∗ rooms (lft c) false ∗ rooms (rgt c) true) := by
  rw [whole_eq, own_eq, blocks_in, bigSepL_append, bigSepL_map, bigSepL_map, ← bigSep_fin 60]
  refine sep_mono_right ?_
  rw [both_ways]
  have key (d : Dev nD) (w : Bool) (hd : (bif w then rgt c else lft c) = d) :
      bigSep (Finset.univ.filter fun t : Hop => wayOf t = w) (fun t => part c (blk c (high t)) f) ⊢ rooms d w :=
    bigSep_mono fun t ht => by
      have hs : d = src c t := by unfold src; rw [(Finset.mem_filter.mp ht).2]; exact hd.symm
      rw [hs]
      unfold room
      rw [dst_src, blk_src]
      exact show part c (blk c (high t)) f ⊢ iprop(∃ f, part c (blk c (high t)) f) from by iintro H; iexists f; iexact H
  exact BIClass.sep_mono (key (lft c) false rfl) (key (rgt c) true rfl)

omit [FloatOps F] in
/-- The blocks the copies took and those the last ones brought are the whole array. -/
theorem whole_join (c : Dev nD) (f : S32768x512.Idx → Elt F .f32) :
    iprop((bigSepL hops fun t => part c (blk c (low t)) f) ∗ bigSepL lasts fun t => part c (blk c (high t)) f)
      = ((c : Thread nD τ).loc main_v1 ↦{fullShare} f : sProp 𝕄) := by
  rw [whole_eq, blocks_out, bigSepL_append, bigSepL_map, bigSepL_map]

/-! ## What every device knows -/

/-- Every semaphore's invariant, under the names `K`, and that all have reached their round. -/
def records (K : Dev nD × Spot → ℕ) : sProp 𝕄 :=
  iprop((bigSep Finset.univ fun ck : Dev nD × Spot => cellInv ER (plan m) (K ck) (kcell ck))
    ∗ bigSep Finset.univ fun ck : Dev nD × Spot => reached ER (kcell ck) 0)
/-- That and the order of the waits. -/
def known (K : Dev nD × Spot → ℕ) : sProp 𝕄 := iprop(records m K ∗ order)

instance records_persistent (K : Dev nD × Spot → ℕ) : BI.Persistent (records m K) := by unfold records; infer_instance
instance known_persistent (K : Dev nD × Spot → ℕ) : BI.Persistent (known m K) := by unfold known; infer_instance

variable (K : Dev nD × Spot → ℕ)

omit [FloatOps F] in
theorem inv_of (ck : Dev nD × Spot) : (bigSep Finset.univ fun ck : Dev nD × Spot => (cellInv ER (plan m) (K ck) (kcell ck) : sProp 𝕄))
    ⊢ cellInv ER (plan m) (K ck) (kcell ck) := bigSep_elim (Finset.mem_univ ck)
omit [FloatOps F] in
theorem reached_of (ck : Dev nD × Spot) : (bigSep Finset.univ fun ck : Dev nD × Spot => (reached ER (kcell ck) 0 : sProp 𝕄))
    ⊢ reached ER (kcell ck) 0 := bigSep_elim (Finset.mem_univ ck)
omit [FloatOps F] in
theorem known_inv (c : Dev nD) (s : Spot) : known m K ⊢ cellInv ER (plan m) (K (c, s)) (kcell (c, s)) := by
  unfold known records
  iintro ⟨⟨H, -⟩, -⟩
  iapply (inv_of m K (c, s)); iexact H
omit [FloatOps F] in
theorem known_reached (c : Dev nD) (s : Spot) : known m K ⊢ reached ER (kcell (c, s)) 0 := by
  unfold known records
  iintro ⟨⟨-, H⟩, -⟩
  iapply (reached_of (F := F) (c, s)); iexact H
omit [FloatOps F] in
theorem known_below (c : Dev nD) (sm : SemLoc sig) (l : List Hop) (h : ∀ t ∈ l, rank (spotOf sm) < 2 + t.val) :
    known m K ⊢ MayWait (c : Thread nD τ) sm () (owedFor c l) := by
  unfold known; iintro ⟨-, H⟩; iapply (mayWait_below c sm l h); iexact H

/-! ## The steps -/

/-- The run of a program on device `c`'s core to a postcondition. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-- Device `c` owes the copies of a list, whatever it has waited for. -/
def held (c : Dev nD) (l : List Hop) : sProp 𝕄 := iprop(∃ W : Waits sig Unit, owes (c : Thread nD τ) (owedFor c l) W)

/-- What the copy `t` of device `c` needs beside its rows: the room it lands in and the right to pay its two semaphores; -/
def give (c : Dev nD) (t : Hop) : sProp 𝕄 :=
  iprop(room c t ∗ dutyTok ER (sendCell c t) 0 false ∗ dutyTok ER (recvCell (dst c t) t) 0 false)
/-- what a wait for an arrival needs; -/
def await (c : Dev nD) (t : Hop) : sProp 𝕄 := iprop(atPos ER (recvCell c t) 0 ∅ 0 ∗ cred (tallyAt (recvCell c t) () N))
/-- what a wait for a departure needs. -/
def leave (c : Dev nD) (t : Hop) : sProp 𝕄 := iprop(atPos ER (sendCell c t) 0 ∅ 0 ∗ cred (tallyAt (sendCell c t) () N))

theorem price_hop (x : Hop ⊕ Hop) : price (some (.inr (.inr x))) = N := rfl
theorem price_copy : price (some (.inr (.inl ()))) = NC := rfl
omit [FloatOps F] in
theorem carries_send (c : Dev nD) (d : Bool) (t : Hop) : carries (F := F) m c d (some (.inr (.inr (.inl t)))) = part c (blk c (low t)) (gath m) := rfl
omit [FloatOps F] in
theorem carries_recv (c : Dev nD) (d : Bool) (t : Hop) : carries (F := F) m c d (some (.inr (.inr (.inr t)))) = part c (blk c (high t)) (gath m) := rfl

variable {Q : PUnit → sProp (MT nD τ sig Unit (Elt F) ℕ UU ℕ)}

/-- A wait that names a piece takes a piece's credit. -/
theorem wait_piece (c : Dev nD) (t : Hop) (s : DmaSem sig) {h h' : (pieceRef c t).view.WordExact} (K' : PUnit → sProp 𝕄) :
    wpE (defs₀ (F := F)) 𝒱₀ (c : Thread nD τ) none Set.univ (.waitDma2 s (pieceRef c t) (pieceRef c t) h h') K'
      = waitSpec (c : Thread nD τ) Set.univ (.dma s) N K' :=
  (wpE_waitDma2_eq 𝒱₀ (c : Thread nD τ) none Set.univ (dst := pieceRef c t) K').trans (by rw [credit_piece])

/-- Starting the copy `t` turns its rows, its room and its rights into the credit of its departure, and the device no longer
    owes it. -/
theorem step_send (c : Dev nD) (t : Hop) (l : List Hop) (k : Prog (TpuEff nD τ sig (Elt F) Λ₀ .tc) PUnit) :
    iprop(known m K ∗ (part c (blk c (low t)) (gath m) ∗ give c t) ∗ held c (t :: l))
      ⊢ iprop(((cred (tallyAt (sendCell c t) () N) ∗ held c l) -∗ runs c k Q)
          -∗ runs c (sendHop oM cc0_scratch0 cc0_scratch1 cc0_scratch2 cc0_scratch3 c t k) Q) := by
  unfold give room held sendHop
  iintro ⟨#HK, ⟨Hsrc, ⟨%fd, Hdst⟩, HtS, HtR⟩, ⟨%W, HO⟩⟩ Hk
  iapply (Rounds.wp_send_pointsTo 𝒱₀ ER (plan m) (c : Thread nD τ) none (κ₁ := K (c, .inr (.inr (.inl t)))) (κ₂ := K (dst c t, .inr (.inr (.inr t))))
    (c' := (dst c t : Thread nD τ)) (src := pieceRef c t) (dst := pieceRef c t) (fs := gath m) (q := fullShare) (fd := fd) (r₁ := 0) (r₂ := 0) (d₁ := false) (d₂ := false)
    (by rw [duties_at m c (.inr (.inr (.inl t)))]; exact Finset.mem_singleton_self _)
    (by rw [duties_at m (dst c t) (.inr (.inr (.inr t)))]; exact Finset.mem_singleton_self _)
    () () N (show (pieceRef c t).view.amount (.dma (recvS t)) = N from credit_piece c t) ((amount_at m c (.inr (.inr (.inl t))) false).trans (price_hop _)) ((amount_at m (dst c t) (.inr (.inr (.inr t))) false).trans (price_hop _))
    (owedFor c l) (owedFor_cons c t l) (W := W)
    (by
      rw [payload_at m c (.inr (.inr (.inl t))), carries_send, pieceRef_set]
      exact BI.Entails.refl _)
    (by
      rw [payload_at m (dst c t) (.inr (.inr (.inr t)))]
      rw [carries_recv]
      unfold part
      rw [blk_dst, pieceRef_set]
      exact Entails.of_eq (pointsTo_congr fun i hi => piece_lands m c t fd i hi))) $$ [Hsrc Hdst HO HtS HtR]
  · isplitr; · iapply (known_inv m K c (.inr (.inr (.inl t)))); iexact HK
    isplitr; · iapply (known_inv m K (dst c t) (.inr (.inr (.inr t)))); iexact HK
    unfold part
    isplitl [Hsrc]; · rw [pieceRef_set]; iexact Hsrc
    isplitl [Hdst]; · rw [pieceRef_set]; iexact Hdst
    isplitl [HO]; · iexact HO
    isplitl [HtS]; · iexact HtS
    isplitr; · iapply (known_reached m K c (.inr (.inr (.inl t)))); iexact HK
    isplitl [HtR]; · iexact HtR
    iapply (known_reached m K (dst c t) (.inr (.inr (.inr t)))); iexact HK
  iintro ⟨Hc, HO⟩
  iapply Hk
  isplitl [Hc]; · iexact Hc
  iexists W; iexact HO

/-- Waiting for the arrival of the copy `t`, owing only later ones, yields the block it brought and the semaphore at zero. -/
theorem step_arrive (c : Dev nD) (t : Hop) (l : List Hop) (hl : ∀ t' ∈ l, t < t') (k : Prog (TpuEff nD τ sig (Elt F) Λ₀ .tc) PUnit) :
    iprop(known m K ∗ await c t ∗ held c l)
      ⊢ iprop((((semVal (recvCell c t) 0 ∗ part c (blk c (high t)) (gath m)) ∗ held c l) -∗ runs c k Q)
          -∗ runs c (awaitHop oM cc0_scratch1 cc0_scratch3 c t k) Q) := by
  unfold await held awaitHop
  iintro ⟨#HK, ⟨Hat, Hc⟩, ⟨%W, HO⟩⟩ Hk
  ihave #HI := (known_inv m K c (.inr (.inr (.inr t)))) $$ HK
  iapply (Rounds.wp_wait_rest_token 𝒱₀ ER (plan m) (c : Thread nD τ) none (κ := K (c, .inr (.inr (.inr t))))
      (wait_piece c t (recvS t)) (Set.mem_univ _) () (O := owedFor c l) (W := W) (R := 0) (m := 0) (T := ∅)
      ((Nat.zero_add N).trans ((expect_own m c (.inr (.inr t))).trans (price_hop _)).symm)) $$ [Hc HO Hat]
  · isplitr; · iexact HI
    isplitl [Hc]; · iexact Hc
    isplitl [HO]; · iexact HO
    isplitr
    · iapply (known_below m K c (.dma (recvS t)) l fun t' ht' => by
        rw [spot_recv]; exact Nat.add_lt_add_left (hl t' ht') 2)
      iexact HK
    iexact Hat
  iintro ⟨HO, Hat, -, Hpay⟩
  ihave Hp := (Entails.of_eq ((rest_own m c (.inr (.inr t))).trans (carries_recv m c false t))) $$ Hpay
  imod (Rounds.cell_close ER (plan m) (Set.mem_univ (K (c, .inr (.inr (.inr t))))) (fun h => h) (R := 0 + 1) (duties_later m (recvCell c t))) $$ [Hat] with Hz
  · isplitr; · iexact HI
    iexact Hat
  iapply Hk
  isplitl [Hz Hp]
  · isplitl [Hz]; · iexact Hz
    iexact Hp
  iexists _; iexact HO

/-- Waiting for the departure of the copy `t`, owing nothing, yields the block it took and the semaphore at zero. -/
theorem step_depart (c : Dev nD) (t : Hop) (k : Prog (TpuEff nD τ sig (Elt F) Λ₀ .tc) PUnit) :
    iprop(known m K ∗ leave c t ∗ held c [])
      ⊢ iprop((((semVal (sendCell c t) 0 ∗ part c (blk c (low t)) (gath m)) ∗ held c []) -∗ runs c k Q)
          -∗ runs c (awaitHop oM cc0_scratch0 cc0_scratch2 c t k) Q) := by
  unfold leave held awaitHop
  iintro ⟨#HK, ⟨Hat, Hc⟩, ⟨%W, HO⟩⟩ Hk
  ihave #HI := (known_inv m K c (.inr (.inr (.inl t)))) $$ HK
  iapply (Rounds.wp_wait_rest_token 𝒱₀ ER (plan m) (c : Thread nD τ) none (κ := K (c, .inr (.inr (.inl t))))
      (wait_piece c t (sendS t)) (Set.mem_univ _) () (O := owedFor c []) (W := W) (R := 0) (m := 0) (T := ∅)
      ((Nat.zero_add N).trans ((expect_own m c (.inr (.inl t))).trans (price_hop _)).symm)) $$ [Hc HO Hat]
  · isplitr; · iexact HI
    isplitl [Hc]; · iexact Hc
    isplitl [HO]; · iexact HO
    isplitr
    · iapply (known_below m K c (.dma (sendS t)) [] fun t' ht' => absurd ht' List.not_mem_nil)
      iexact HK
    iexact Hat
  iintro ⟨HO, Hat, -, Hpay⟩
  ihave Hp := (Entails.of_eq ((rest_own m c (.inr (.inl t))).trans (carries_send m c false t))) $$ Hpay
  imod (Rounds.cell_close ER (plan m) (Set.mem_univ (K (c, .inr (.inr (.inl t))))) (fun h => h) (R := 0 + 1) (duties_later m (sendCell c t))) $$ [Hat] with Hz
  · isplitr; · iexact HI
    iexact Hat
  iapply Hk
  isplitl [Hz Hp]
  · isplitl [Hz]; · iexact Hz
    iexact Hp
  iexists _; iexact HO

/-! ## The loops -/

omit [FloatOps F] in
/-- A loop over a list of copies, from its step: a step turns `Pre t` into `Post t` and the state `S` of what is left with
    `t` into that without. -/
theorem wp_each [FloatOps F] (c : Dev nD) {R : sProp 𝕄} [BI.Persistent R]
    (f : Hop → Prog (TpuEff nD τ sig (Elt F) Λ₀ .tc) PUnit → Prog (TpuEff nD τ sig (Elt F) Λ₀ .tc) PUnit)
    (P : List Hop → Prop) (hP : ∀ t l, P (t :: l) → P l) (S : List Hop → sProp 𝕄) (Pre Post : Hop → sProp 𝕄)
    (step : ∀ t l k, P (t :: l) → iprop(R ∗ Pre t ∗ S (t :: l)) ⊢ iprop(((Post t ∗ S l) -∗ runs c k Q) -∗ runs c (f t k) Q)) :
    ∀ l k, P l → iprop(R ∗ bigSepL l Pre ∗ S l) ⊢ iprop(((bigSepL l Post ∗ S []) -∗ runs c k Q) -∗ runs c (eachHop f l k) Q) := by
  intro l
  induction l with
  | nil =>
    intro k _
    iintro ⟨-, HP, HS⟩ Hk
    iapply Hk
    isplitl [HP]; · iexact HP
    iexact HS
  | cons t l ih =>
    intro k hl
    rw [bigSepL_cons', bigSepL_cons']
    iintro ⟨#HR, ⟨Ht, Hl⟩, HS⟩ Hk
    unfold eachHop
    iapply (step t l (eachHop f l k) hl) $$ [Ht HS]
    · isplitr; · iexact HR
      isplitl [Ht] <;> iassumption
    iintro ⟨Ht, HS⟩
    iapply (ih k (hP t l hl)) $$ [Hl HS]
    · isplitr; · iexact HR
      isplitl [Hl] <;> iassumption
    iintro ⟨Hl, HS⟩
    iapply Hk
    isplitl [Ht Hl]
    · isplitl [Ht] <;> iassumption
    iexact HS

end Cert.KernelIdealProof

end
-- ==== Proof.Ideal.Body.lean ====
/- The whole kernel on one device, by the steps of the protocol in program order, at ideal floats. -/
module

public import proofs.«01_k».proof.Proof.Ideal.Walk

@[expose] public section

noncomputable section

namespace Cert.KernelIdealProof

open Cert.KernelIdeal Cert.KernelIdeal.Gen
open Idealize.ShloMosaic
open Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The four loops -/

section Loops

variable (K : Dev nD × Spot → ℕ) {Q : PUnit → sProp (MT nD τ sig Unit (Elt F) ℕ UU ℕ)}

theorem high_before (t : Hop) (h : 4 ≤ t.val) : high (before t) = low t := Fin.ext (Nat.sub_add_cancel h)

/-- The first copies start: the own rows, in place, leave with them. -/
theorem run_firsts (c : Dev nD) (k : Prog (TpuEff nD τ sig (Elt F) Λ₀ .tc) PUnit) :
    iprop(known m K ∗ (bigSepL firsts fun t => iprop(part c (blk c (low t)) (gath m) ∗ give c t)) ∗ held c hops)
      ⊢ iprop((((bigSepL firsts fun t => cred (tallyAt (sendCell c t) () N)) ∗ held c laters) -∗ runs c k Q)
          -∗ runs c (eachHop (sendHop oM cc0_scratch0 cc0_scratch1 cc0_scratch2 cc0_scratch3 c) firsts k) Q) := by
  have h := wp_each (Q := Q) c (R := known m K) (sendHop oM cc0_scratch0 cc0_scratch1 cc0_scratch2 cc0_scratch3 c) (fun _ => True)
    (fun _ _ _ => trivial) (fun l => held c (l ++ laters)) (fun t => iprop(part c (blk c (low t)) (gath m) ∗ give c t))
    (fun t => cred (tallyAt (sendCell c t) () N)) (fun t l k _ => step_send m K c t (l ++ laters) k) firsts k trivial
  rw [← hops_split, List.nil_append] at h
  exact h

/-- Every further copy starts when the one it passes on has arrived. -/
theorem run_laters (c : Dev nD) (k : Prog (TpuEff nD τ sig (Elt F) Λ₀ .tc) PUnit) :
    iprop(known m K ∗ (bigSepL laters fun t => iprop(await c (before t) ∗ give c t)) ∗ held c laters)
      ⊢ iprop((((bigSepL laters fun t => iprop(cred (tallyAt (sendCell c t) () N) ∗ semVal (recvCell c (before t)) 0)) ∗ held c []) -∗ runs c k Q)
          -∗ runs c (eachHop (fun t k => awaitHop oM cc0_scratch1 cc0_scratch3 c (before t)
              (sendHop oM cc0_scratch0 cc0_scratch1 cc0_scratch2 cc0_scratch3 c t k)) laters k) Q) := by
  refine wp_each (Q := Q) c (R := known m K) (fun t k => awaitHop oM cc0_scratch1 cc0_scratch3 c (before t)
      (sendHop oM cc0_scratch0 cc0_scratch1 cc0_scratch2 cc0_scratch3 c t k)) (fun l => l.Pairwise (· < ·) ∧ ∀ t ∈ l, 4 ≤ t.val)
    (fun t l h => ⟨(List.pairwise_cons.mp h.1).2, fun t' ht' => h.2 t' (List.mem_cons_of_mem t ht')⟩) (fun l => held c l)
    (fun t => iprop(await c (before t) ∗ give c t)) (fun t => iprop(cred (tallyAt (sendCell c t) () N) ∗ semVal (recvCell c (before t)) 0))
    ?_ laters k ⟨laters_sorted, laters_ge⟩
  intro t l k hl
  have ht : 4 ≤ t.val := hl.2 t List.mem_cons_self
  have hlt : before t < t := Fin.lt_def.mpr (Nat.sub_lt (Nat.lt_of_lt_of_le (by decide) ht) (by decide))
  iintro ⟨#HK, ⟨Ha, Hg⟩, HO⟩ Hk
  iapply (step_arrive m K c (before t) (t :: l) (fun t' ht' => by
    rcases List.mem_cons.mp ht' with rfl | h
    · exact hlt
    · exact Fin.lt_trans hlt ((List.pairwise_cons.mp hl.1).1 t' h))
    (sendHop oM cc0_scratch0 cc0_scratch1 cc0_scratch2 cc0_scratch3 c t k)) $$ [Ha HO]
  · isplitr; · iexact HK
    isplitl [Ha] <;> iassumption
  rw [high_before t ht]
  iintro ⟨⟨Hz, Hp⟩, HO⟩
  iapply (step_send m K c t l k) $$ [Hp Hg HO]
  · isplitr; · iexact HK
    isplitl [Hp Hg]
    · isplitl [Hp] <;> iassumption
    iexact HO
  iintro ⟨Hc, HO⟩
  iapply Hk
  isplitl [Hc Hz]
  · isplitl [Hc] <;> iassumption
  iexact HO

/-- The last copies arrive. -/
theorem run_lasts (c : Dev nD) (k : Prog (TpuEff nD τ sig (Elt F) Λ₀ .tc) PUnit) :
    iprop(known m K ∗ (bigSepL lasts (await c)) ∗ held c [])
      ⊢ iprop((((bigSepL lasts fun t => iprop(semVal (recvCell c t) 0 ∗ part c (blk c (high t)) (gath m))) ∗ held c []) -∗ runs c k Q)
          -∗ runs c (eachHop (awaitHop oM cc0_scratch1 cc0_scratch3 c) lasts k) Q) :=
  wp_each (Q := Q) c (R := known m K) (awaitHop oM cc0_scratch1 cc0_scratch3 c) (fun _ => True) (fun _ _ _ => trivial)
    (fun _ => held c []) (await c) (fun t => iprop(semVal (recvCell c t) 0 ∗ part c (blk c (high t)) (gath m)))
    (fun t _ k _ => step_arrive m K c t [] (fun t' ht' => absurd ht' List.not_mem_nil) k) lasts k trivial

/-- All copies have left. -/
theorem run_hops (c : Dev nD) (k : Prog (TpuEff nD τ sig (Elt F) Λ₀ .tc) PUnit) :
    iprop(known m K ∗ (bigSepL hops (leave c)) ∗ held c [])
      ⊢ iprop((((bigSepL hops fun t => iprop(semVal (sendCell c t) 0 ∗ part c (blk c (low t)) (gath m))) ∗ held c []) -∗ runs c k Q)
          -∗ runs c (eachHop (awaitHop oM cc0_scratch0 cc0_scratch2 c) hops k) Q) :=
  wp_each (Q := Q) c (R := known m K) (awaitHop oM cc0_scratch0 cc0_scratch2 c) (fun _ => True) (fun _ _ _ => trivial)
    (fun _ => held c []) (leave c) (fun t => iprop(semVal (sendCell c t) 0 ∗ part c (blk c (low t)) (gath m)))
    (fun t _ k _ => step_depart m K c t k) hops k trivial

/-- From the own rows in place to the end: the array is gathered, every semaphore of the copies back at zero. -/
theorem run_copies (c : Dev nD) :
    iprop(known m K ∗ ((c : Thread nD τ).loc main_v1 ↦[(ownRef c).view.set]{fullShare} gath m) ∗ (bigSepL hops (give c))
        ∗ (bigSepL hops (await c)) ∗ (bigSepL hops fun t => atPos ER (sendCell c t) 0 ∅ 0) ∗ held c hops)
      ⊢ iprop(((((c : Thread nD τ).loc main_v1 ↦{fullShare} gath m) ∗ (bigSepL hops fun t => semVal (sendCell c t) 0)
            ∗ (bigSepL hops fun t => semVal (recvCell c t) 0) ∗ held c []) -∗ |={Set.univ}=> Q ⟨⟩)
          -∗ runs c (eachHop (sendHop oM cc0_scratch0 cc0_scratch1 cc0_scratch2 cc0_scratch3 c) firsts <|
              eachHop (fun t k => awaitHop oM cc0_scratch1 cc0_scratch3 c (before t) (sendHop oM cc0_scratch0 cc0_scratch1 cc0_scratch2 cc0_scratch3 c t k)) laters <|
              eachHop (awaitHop oM cc0_scratch1 cc0_scratch3 c) lasts <|
              eachHop (awaitHop oM cc0_scratch0 cc0_scratch2 c) hops <|
              .ret ⟨⟩) Q) := by
  have e1 : bigSepL hops (give (F := F) c) = iprop(bigSepL firsts (give c) ∗ bigSepL laters (give c)) := by
    rw [← bigSepL_append, ← hops_split]
  have e2 : bigSepL hops (await (F := F) c) = iprop((bigSepL laters fun t => await c (before t)) ∗ bigSepL lasts (await c)) := by
    rw [hops_split', bigSepL_append, bigSepL_map]
  have e3 : (bigSepL hops fun t => (cred (tallyAt (sendCell c t) () N) : sProp 𝕄))
      = iprop((bigSepL firsts fun t => cred (tallyAt (sendCell c t) () N)) ∗ bigSepL laters fun t => cred (tallyAt (sendCell c t) () N)) := by
    rw [← bigSepL_append, ← hops_split]
  have e4 : (bigSepL hops fun t => (semVal (recvCell c t) 0 : sProp 𝕄))
      = iprop((bigSepL laters fun t => semVal (recvCell c (before t)) 0) ∗ bigSepL lasts fun t => semVal (recvCell c t) 0) := by
    rw [hops_split', bigSepL_append, bigSepL_map]
  rw [own_eq, e1, e2]
  iintro ⟨#HK, Hown, ⟨Hg1, Hg2⟩, ⟨Ha1, Ha2⟩, HatS, HO⟩ Hk
  ihave H1 := (zip firsts _ _) $$ [Hown Hg1]
  · isplitl [Hown]; · iexact Hown
    iexact Hg1
  iapply (run_firsts m K c _) $$ [H1 HO]
  · isplitr; · iexact HK
    isplitl [H1] <;> iassumption
  iintro ⟨Hc1, HO⟩
  ihave H2 := (zip laters _ _) $$ [Ha1 Hg2]
  · isplitl [Ha1]; · iexact Ha1
    iexact Hg2
  iapply (run_laters m K c _) $$ [H2 HO]
  · isplitr; · iexact HK
    isplitl [H2] <;> iassumption
  iintro ⟨H2, HO⟩
  ihave H2' := (unzip laters _ _) $$ H2
  icases H2' with ⟨Hc2, Hz1⟩
  iapply (run_lasts m K c _) $$ [Ha2 HO]
  · isplitr; · iexact HK
    isplitl [Ha2] <;> iassumption
  iintro ⟨H3, HO⟩
  ihave H3' := (unzip lasts _ _) $$ H3
  icases H3' with ⟨Hz2, Hp2⟩
  ihave Hc := (Entails.of_eq e3.symm) $$ [Hc1 Hc2]
  · isplitl [Hc1] <;> iassumption
  ihave H4 := (zip hops _ _) $$ [HatS Hc]
  · isplitl [HatS]; · iexact HatS
    iexact Hc
  iapply (run_hops m K c _) $$ [H4 HO]
  · isplitr; · iexact HK
    isplitl [H4]; · unfold leave; iexact H4
    iexact HO
  iintro ⟨H5, HO⟩
  ihave H5' := (unzip hops _ _) $$ H5
  icases H5' with ⟨Hz3, Hp1⟩
  ihave Hw := (Entails.of_eq (whole_join c (gath m))) $$ [Hp1 Hp2]
  · isplitl [Hp1] <;> iassumption
  ihave Hz := (Entails.of_eq e4.symm) $$ [Hz1 Hz2]
  · isplitl [Hz1] <;> iassumption
  unfold runs
  rw [wp_ret]
  iapply Hk
  isplitl [Hw]; · iexact Hw
  isplitl [Hz3]; · iexact Hz3
  isplitl [Hz] <;> iassumption

end Loops

/-! ## The whole kernel -/

/-- Device `c`'s positions on its own semaphores, and the rights to pay those it pays. -/
def linear (c : Dev nD) : sProp 𝕄 :=
  iprop(atPos ER (barCell c) 0 ∅ 0 ∗ atPos ER (copyCell c) 0 ∅ 0
    ∗ (bigSepL hops fun t => atPos ER (sendCell c t) 0 ∅ 0) ∗ (bigSepL hops fun t => atPos ER (recvCell c t) 0 ∅ 0)
    ∗ dutyTok ER (barCell (lft c)) 0 false ∗ dutyTok ER (barCell (rgt c)) 0 true ∗ dutyTok ER (copyCell c) 0 false
    ∗ (bigSepL hops fun t => dutyTok ER (sendCell c t) 0 false) ∗ bigSepL hops fun t => dutyTok ER (recvCell (dst c t) t) 0 false)
/-- What the gathering gives device `c` at the launch: that, and every semaphore's invariant. -/
def ghost (K : Dev nD × Spot → ℕ) (c : Dev nD) : sProp 𝕄 := iprop(known m K ∗ linear c)

/-- Before the kernel: that, the credit of what the neighbours will pay, and the array to be filled. -/
def Φ₀ (c : Dev nD) : sProp 𝕄 :=
  iprop((∃ K, ghost m K c) ∗ cred (tallyAt (barCell c) () 2) ∗ (bigSepL hops fun t => cred (tallyAt (recvCell c t) () N))
    ∗ ((c : Thread nD τ).loc main_v1 ↦{fullShare} m ((c : Thread nD τ).loc main_v1)))
/-- After it: the gathered array, and every semaphore at zero. -/
def Φ₁ (c : Dev nD) : sProp 𝕄 :=
  iprop(((c : Thread nD τ).loc main_v1 ↦{fullShare} gath m) ∗ semVal (barCell c) 0 ∗ semVal (copyCell c) 0
    ∗ (bigSepL hops fun t => semVal (sendCell c t) 0) ∗ bigSepL hops fun t => semVal (recvCell c t) 0)

/-- The pipeline's data: the one window is the argument, which the kernel reads and leaves. -/
def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

section Body

variable (K : Dev nD × Spot → ℕ)

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The start and the end of the body on one device, the names of the invariants chosen. -/
def bodyPre (c : Dev nD) : sProp 𝕄 :=
  iprop((ghost m K c ∗ cred (tallyAt (barCell c) () 2) ∗ (bigSepL hops fun t => cred (tallyAt (recvCell c t) () N))
      ∗ ((c : Thread nD τ).loc main_v1 ↦{fullShare} m ((c : Thread nD τ).loc main_v1)))
    ∗ (dats m 0 c).owesAt () t0_0.castSucc
    ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (staged m c))

omit [FloatOps F] in
/-- The staged argument is the local copy's source. -/
theorem staged_pts (c : Dev nD) : ((c : Thread nD τ).loc cc0_stg0_0 ↦[xM.view.set]{fullShare} staged m c : sProp 𝕄)
    = ((c : Thread nD τ).loc cc0_stg0_0 ↦{fullShare} staged m c) := by
  simp only [Memref.view_whole, View.set_whole]

/-- The wait for the local copy takes its credit. -/
theorem wait_own (c : Dev nD) (h : (xM : Memref sig .tc .vmem S2048x512 .f32).view.WordExact) (h') (K' : PUnit → sProp 𝕄) :
    wpE (defs₀ (F := F)) 𝒱₀ (c : Thread nD τ) none Set.univ (.waitDma2 copyS xM (ownRef c) h h') K'
      = waitSpec (c : Thread nD τ) Set.univ (.dma copyS) NC K' :=
  (wpE_waitDma2_eq 𝒱₀ (c : Thread nD τ) none Set.univ (dst := ownRef c) K').trans (by rw [credit_own])

omit [FloatOps F] in
theorem carries_copy (c : Dev nD) (d : Bool) : carries (F := F) m c d (some (.inr (.inl ()))) = ownPay m c := rfl
omit [FloatOps F] in
theorem carries_bar (c : Dev nD) (d : Bool) : carries (F := F) m c d (some (.inl ())) = rooms c d := rfl

set_option maxHeartbeats 800000 in
/-- The body, one rule after the other in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole main_v1) (Memref.isWhole_whole _)
            cc0_scratch0 cc0_scratch1 cc0_scratch2 cc0_scratch3 cc0_scratch4) Kt := by
  rw [body_eq]
  simp only [wp_deviceId]
  unfold gatherFrom
  simp only [semSignalWord, semWaitWord, Prog.lift, Prog.bind]
  unfold bodyPre ghost linear
  iintro ⟨⟨⟨⟨#HK, HatB, HatC, HatS, HatV, HtL, HtR, HtC, HtS, HtV⟩, HcB, HcV, Hout⟩, Ho, ⟨%d0, %g0, %hg0, Hx⟩⟩, Hk⟩
  have hx : g0 = staged m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  simp only [dev1_eq c, dev2_eq c]
  ihave Hrooms := (whole_rooms c _) $$ Hout
  icases Hrooms with ⟨Hown, HrL, HrR⟩
  -- the greeting to the left, with the room for that neighbour's copies to the right
  iapply (Rounds.wp_signal 𝒱₀ ER (plan m) (c : Thread nD τ) none (dst := (lft c : Thread nD τ)) (κ := K (lft c, .inl ()))
      (d := false) (by rw [duties_at m (lft c) (.inl ())]; exact Finset.mem_univ _) ((amount_at m (lft c) (.inl ()) false).trans (by decide)) () (O₁ c) rfl)
    $$ [HO HtL HrL]
  · isplitr; · iapply (known_inv m K (lft c) (.inl ())); iexact HK
    isplitl [HO]; · iexact HO
    isplitl [HtL]; · iexact HtL
    isplitl [HrL]; · rw [payload_at m (lft c) (.inl ()), carries_bar]; iexact HrL
    iapply (known_reached m K (lft c) (.inl ())); iexact HK
  iintro HO
  unfold O₁
  -- that to the right
  iapply (Rounds.wp_signal 𝒱₀ ER (plan m) (c : Thread nD τ) none (dst := (rgt c : Thread nD τ)) (κ := K (rgt c, .inl ()))
      (d := true) (by rw [duties_at m (rgt c) (.inl ())]; exact Finset.mem_univ _) ((amount_at m (rgt c) (.inl ()) true).trans (by decide)) () (owedFor c hops) rfl)
    $$ [HO HtR HrR]
  · isplitr; · iapply (known_inv m K (rgt c) (.inl ())); iexact HK
    isplitl [HO]; · iexact HO
    isplitl [HtR]; · iexact HtR
    isplitl [HrR]; · rw [payload_at m (rgt c) (.inl ()), carries_bar]; iexact HrR
    iapply (known_reached m K (rgt c) (.inl ())); iexact HK
  iintro HO
  -- the wait for both neighbours' greetings, which bring the room for the own copies
  ihave #HIB := (known_inv m K c (.inl ())) $$ HK
  iapply (Rounds.wp_wait_rest_token 𝒱₀ ER (plan m) (c : Thread nD τ) none (κ := K (c, .inl ()))
      (wpE_semWait_eq 𝒱₀ (c : Thread nD τ) none Set.univ) (Set.mem_univ _) () (O := owedFor c hops) (W := W) (R := 0) (m := 0) (T := ∅)
      (by rw [expect_bar]; decide)) $$ [HcB HO HatB]
  · isplitr; · iexact HIB
    isplitl [HcB]; · iexact HcB
    isplitl [HO]; · iexact HO
    isplitr
    · iapply (known_below m K c (.reg barS) hops fun t _ => by
        rw [spot_bar]; exact Nat.lt_of_lt_of_le (by decide) (Nat.le_add_right 2 _))
      iexact HK
    iexact HatB
  iintro ⟨HO, HatB, -, Hpay⟩
  ihave Hroom := (Entails.of_eq ((rest_bar m c).trans (rooms_eq c))) $$ Hpay
  imod (Rounds.cell_close ER (plan m) (Set.mem_univ (K (c, .inl ()))) (fun h => h) (R := 0 + 1) (duties_later m (barCell c))) $$ [HatB] with HzB
  · isplitr; · iexact HIB
    iexact HatB
  -- the own rows, copied into place
  ihave #HIC := (known_inv m K c (.inr (.inl ()))) $$ HK
  ihave Hx' := (Entails.of_eq (staged_pts m c).symm) $$ Hx
  iapply (Rounds.wp_copy_pointsTo 𝒱₀ ER (plan m) (c : Thread nD τ) none (κ := K (c, .inr (.inl ()))) (src := xM) (dst := ownRef c)
      (fs := staged m c) (fd := m ((c : Thread nD τ).loc main_v1)) (q := fullShare) (r := 0) (d := false)
      (by rw [duties_at m c (.inr (.inl ()))]; exact Finset.mem_singleton_self _)
      () NC (show (ownRef c).view.amount (.dma copyS) = NC from credit_own c) ((amount_at m c (.inr (.inl ())) false).trans price_copy)
      (by
        rw [payload_at m c (.inr (.inl ())), carries_copy]
        unfold ownPay
        exact sep_mono_left (Entails.of_eq (pointsTo_congr fun i hi => own_lands m c _ i hi)))) $$ [Hx' Hown HtC]
  · isplitr; · iexact HIC
    isplitl [Hx']; · iexact Hx'
    isplitl [Hown]; · iexact Hown
    isplitl [HtC]; · iexact HtC
    iapply (known_reached m K c (.inr (.inl ()))); iexact HK
  iintro HcC
  iapply (Rounds.wp_wait_rest_token 𝒱₀ ER (plan m) (c : Thread nD τ) none (κ := K (c, .inr (.inl ())))
      (wait_own c _ _) (Set.mem_univ _) () (O := owedFor c hops) (R := 0) (m := 0) (T := ∅)
      ((Nat.zero_add NC).trans ((expect_own m c (.inl ())).trans price_copy).symm)) $$ [HcC HO HatC]
  · isplitr; · iexact HIC
    isplitl [HcC]; · iexact HcC
    isplitl [HO]; · iexact HO
    isplitr
    · iapply (known_below m K c (.dma copyS) hops fun t _ => by
        rw [spot_copy]; exact Nat.lt_of_lt_of_le (by decide) (Nat.le_add_right 2 _))
      iexact HK
    iexact HatC
  iintro ⟨HO, HatC, -, Hpay⟩
  ihave Hp := (Entails.of_eq ((rest_own m c (.inl ())).trans (carries_copy m c false))) $$ Hpay
  unfold ownPay
  icases Hp with ⟨Hown, Hx'⟩
  ihave Hx := (Entails.of_eq (staged_pts m c)) $$ Hx'
  imod (Rounds.cell_close ER (plan m) (Set.mem_univ (K (c, .inr (.inl ())))) (fun h => h) (R := 0 + 1) (duties_later m (copyCell c))) $$ [HatC] with HzC
  · isplitr; · iexact HIC
    iexact HatC
  -- the copies between neighbours
  ihave Ht := (zip hops _ _) $$ [HtS HtV]
  · isplitl [HtS]; · iexact HtS
    iexact HtV
  ihave Hg := (zip hops _ _) $$ [Hroom Ht]
  · isplitl [Hroom]; · iexact Hroom
    iexact Ht
  ihave Ha := (zip hops _ _) $$ [HatV HcV]
  · isplitl [HatV]; · iexact HatV
    iexact HcV
  iapply (run_copies m K c) $$ [Hown Hg Ha HatS HO]
  · isplitr; · iexact HK
    isplitl [Hown]; · iexact Hown
    isplitl [Hg]; · unfold give; iexact Hg
    isplitl [Ha]; · unfold await; iexact Ha
    isplitl [HatS]; · iexact HatS
    unfold held
    iexists _; iexact HO
  iintro ⟨Hout, HzS, HzV, HO⟩
  imodintro
  iapply Hk
  unfold bodyPost Φ₁ Dat.owesAt Pipeline.owesWithin held
  rw [show (dats m 0 c).owed t0_0.succ = 0 from rfl, owedFor_nil]
  icases HO with ⟨%W', HO⟩
  isplitl [Hout HzB HzC HzS HzV]
  · isplitl [Hout]; · iexact Hout
    isplitl [HzB]; · iexact HzB
    isplitl [HzC]; · iexact HzC
    isplitl [HzS] <;> iassumption
  isplitl [HO]
  · iexists W'
    isplitr; · ipureintro; exact fun _ _ => Or.inl trivial
    iexact HO
  iexists _; isplitr; · (ipureintro; rfl)
  iexact Hx

/-- The body's start as the pipeline states it. -/
def bodyPre' (c : Dev nD) : sProp 𝕄 :=
  iprop(Φ₀ m c ∗ (dats m 0 c).owesAt () t0_0.castSucc
    ∗ (∃ d, stg c cc0_stg0_0 ((dats m 0 c).before (0 : Fin 1) t0_0 d)))

set_option maxRecDepth 20000 in
/-- The pipeline's demand on the body, on every device. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole main_v1) (Memref.isWhole_whole _)
            cc0_scratch0 cc0_scratch1 cc0_scratch2 cc0_scratch3 cc0_scratch4) (fun _ => bodyPost m c)
  unfold bodyPre' Φ₀
  iintro ⟨⟨⟨%K, Hg⟩, Hrest⟩, Ho, Hx⟩
  iapply (sound_body m K c fun _ => bodyPost m c)
  unfold bodyPre
  isplitr []
  · isplitl [Hg Hrest]
    · isplitl [Hg] <;> iassumption
    isplitl [Ho] <;> iassumption
  · iintro H; iexact H

end Body

end Cert.KernelIdealProof

end
-- ==== Proof.Ideal.Launch.lean ====
/- The launch on all sixteen devices, and the run of the program: every device ends with the gathered array, at ideal floats. -/
module

public import proofs.«01_k».proof.Proof.Ideal.Body
public import proofs.«01_k».proof.Proof.Gen.KernelIdeal.Frame
public import Idealize.ShloMosaic.Lib.Quiescent
public import Idealize.ShloMosaic.Lib.Pipeline.CollectiveSegs

@[expose] public section

noncomputable section

namespace Cert.KernelIdealProof

open Cert.KernelIdeal Cert.KernelIdeal.Gen
open Idealize.ShloMosaic
open Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Chains over the semaphores -/

omit [FloatOps F] in
theorem bigSep_one (Φ : Unit → sProp 𝕄) : bigSep Finset.univ Φ = Φ () := bigSep_univ_eq_bigSepL [()] (by decide) (by decide) Φ

omit [FloatOps F] in
/-- A chain over the kernel's own semaphores; -/
theorem owns_eq (Φ : Own → sProp 𝕄) : bigSep Finset.univ Φ
    = iprop(Φ (.inl ()) ∗ (bigSepL hops fun t => Φ (.inr (.inl t))) ∗ bigSepL hops fun t => Φ (.inr (.inr t))) := by
  rw [bigSep_univ_sum, bigSep_univ_sum, bigSep_one, bigSep_fin, bigSep_fin]; rfl
omit [FloatOps F] in
/-- one over all of the gathering's. -/
theorem spots_eq (Φ : Spot → sProp 𝕄) : bigSep Finset.univ Φ
    = iprop(Φ (.inl ()) ∗ Φ (.inr (.inl ())) ∗ (bigSepL hops fun t => Φ (.inr (.inr (.inl t)))) ∗ bigSepL hops fun t => Φ (.inr (.inr (.inr t)))) := by
  rw [bigSep_univ_sum, bigSep_one, owns_eq]; rfl

/-! ## The launch -/

theorem osem_injective : Function.Injective osem := fun k k' h => Sum.inr.inj (csem_injective (a₁ := .inr k) (a₂ := .inr k') h)

theorem ownSemFacts : Pipeline.OwnSemFacts cfg0.spec osem where
  isScoped k := by
    rcases k with _ | t | t
    · exact show (SemLoc.dma copyS : SemLoc sig).isScoped .tc = true from by decide
    · revert t; decide +kernel
    · revert t; decide +kernel
  inj := osem_injective
  disj k w s h := by
    have h1 := (spot_csem (.inr k)).symm.trans (congrArg spotOf h)
    have h2 : spotOf (.dma ((cfg0.spec w).sem s)) = none := by fin_cases w <;> fin_cases s <;> decide
    exact absurd (h1.trans h2) (Option.some_ne_none _)

theorem share_eq (c : Dev nD) (w : Fin cfg0.W) : (dats m 0 c).share w = fullShare := by unfold Dat.share; split <;> rfl

/-- The cells the gathering uses, -/
def cells : Finset (GSem nD τ sig) := Finset.univ.map ⟨kcell, kcell_injective⟩

/-- and the rights to pay them as they are made: of a device's own semaphores one each, of its barrier a second. -/
abbrev tokOf (x : Dev nD × (Unit ⊕ Spot)) : GSem nD τ sig × ℕ × Bool := match x.2 with
  | .inl _ => (barCell x.1, 0, true)
  | .inr s => (kcell (x.1, s), 0, false)
theorem tokOf_injective : Function.Injective tokOf := by
  rintro ⟨c, j⟩ ⟨c', j'⟩ h
  rcases j with _ | s <;> rcases j' with _ | s'
  · have h1 : c = c' := congrArg (fun x : GSem nD τ sig × ℕ × Bool => x.1.1.1) h
    rw [h1]
  · exact absurd (congrArg (fun x : GSem nD τ sig × ℕ × Bool => x.2.2) h) (by intro h'; cases h')
  · exact absurd (congrArg (fun x : GSem nD τ sig × ℕ × Bool => x.2.2) h) (by intro h'; cases h')
  · have h1 : (c, s) = (c', s') := kcell_injective (congrArg (fun x : GSem nD τ sig × ℕ × Bool => x.1) h)
    rw [(Prod.mk.inj h1).1, (Prod.mk.inj h1).2]
def rights : Finset (GSem nD τ sig × ℕ × Bool) := Finset.univ.map ⟨tokOf, tokOf_injective⟩

def u₀ : UU :=
  (initOf (Pipeline.cells cfgs cellOf_inj) (Pipeline.launchToks cfgs cellOf_inj), initOf cells rights)

/-- The rights made for device `c`'s own semaphores. -/
def toks (c : Dev nD) : sProp 𝕄 :=
  iprop(dutyTok ER (barCell c) 0 true ∗ bigSep Finset.univ fun s : Spot => dutyTok ER (kcell (c, s)) 0 false)

/-- What the launch deals device `c`. -/
def G (c : Dev nD) : sProp 𝕄 :=
  iprop((bigSep Finset.univ fun s : Spot => roundState ER (plan m) (kcell (c, s)) 0)
    ∗ (bigSep Finset.univ fun s : Spot => iprop(atPos ER (kcell (c, s)) 0 ∅ 0 ∗ reached ER (kcell (c, s)) 0)) ∗ toks c)

/-- What the global step makes of it. -/
def G' (c : Dev nD) : sProp 𝕄 := iprop(∃ K, records m K ∗ linear c)

omit [FloatOps F] in
theorem fund_cells : BI.own (ER (initOf cells rights)) ⊢ (|==> bigSep Finset.univ (G m) : sProp 𝕄) := by
  have hX (Φ : GSem nD τ sig → sProp 𝕄) : bigSep cells Φ = bigSep Finset.univ fun c : Dev nD => bigSep Finset.univ fun s : Spot => Φ (kcell (c, s)) := by
    unfold cells; rw [bigSep_map, bigSep_univ_prod]; rfl
  have hT : bigSep rights (fun x => (dutyTok ER x.1 x.2.1 x.2.2 : sProp 𝕄)) = bigSep Finset.univ fun c : Dev nD => toks c := by
    unfold rights; rw [bigSep_map, bigSep_univ_prod]
    exact bigSep_congr fun c _ => by unfold toks; rw [bigSep_univ_sum, bigSep_one]; rfl
  iintro HX
  imod (Rounds.fund ER (plan m) cells rights) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores, at zero; -/
theorem ownSems0_eq (c : Dev nD) : (Pipeline.ownSems0 (Ix := Unit) (Name := ℕ) (U := UU) (Lvl := ℕ) (Val := Elt F) (τ := τ) osem c : sProp 𝕄)
    = iprop(semVal (copyCell c) 0 ∗ (bigSepL hops fun t => semVal (sendCell c t) 0) ∗ bigSepL hops fun t => semVal (recvCell c t) 0) := by
  unfold Pipeline.ownSems0; rw [owns_eq]
omit [FloatOps F] in
/-- the barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun s : Spot => semVal (kcell (c, s)) 0 : sProp 𝕄) := by
  rw [ownSems0_eq, unscopedSems0_eq, spots_eq]
  iintro ⟨HO, HB⟩
  isplitl [HB] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s => iprop(∃ κ : ℕ, cellInv ER (plan m) κ (kcell (c, s))))
          ∗ (bigSep Finset.univ fun s => iprop(atPos ER (kcell (c, s)) 0 ∅ 0 ∗ reached ER (kcell (c, s)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun s : Spot => semVal (kcell (c, s)) 0) ∗ bigSep Finset.univ fun s : Spot => roundState ER (plan m) (kcell (c, s)) 0)
      ⊢ (|={Set.univ}=> bigSep Finset.univ fun s => iprop(∃ κ : ℕ, cellInv ER (plan m) κ (kcell (c, s))) : sProp 𝕄) from by
        rw [← bigSep_sep']
        exact (bigSep_mono fun s _ => (Rounds.body_intro ER (plan m) (kcell (c, s))).trans inv_alloc).trans (bigSep_fupd _ _)) $$ [Hv Hst] with Hinv
  · isplitl [Hv] <;> iassumption
  imodintro
  isplitl [Hinv]; · iexact Hinv
  isplitl [Hat]; · iexact Hat
  iexact Htok

/-- The rights of the semaphores a device pays. -/
def payToks (c : Dev nD) : sProp 𝕄 :=
  iprop(dutyTok ER (barCell (lft c)) 0 false ∗ dutyTok ER (barCell (rgt c)) 0 true ∗ dutyTok ER (copyCell c) 0 false
    ∗ (bigSepL hops fun t => dutyTok ER (sendCell c t) 0 false) ∗ bigSepL hops fun t => dutyTok ER (recvCell (dst c t) t) 0 false)

/-- Every copy of every device, by the device it arrives on. -/
def arrivals : Dev nD × Hop ≃ Dev nD × Hop where
  toFun p := (dst p.1 p.2, p.2)
  invFun p := (src p.1 p.2, p.2)
  left_inv p := Prod.ext (src_dst p.1 p.2) rfl
  right_inv p := Prod.ext (dst_src p.1 p.2) rfl

omit [FloatOps F] in
/-- A chain over all copies of all devices may name each by the device it arrives on. -/
theorem bigSep_arrivals (Φ : Dev nD → Hop → sProp 𝕄) : (bigSep Finset.univ fun c : Dev nD => bigSepL hops (Φ c))
    = bigSep Finset.univ fun c : Dev nD => bigSepL hops fun t => Φ (dst c t) t := by
  have h (Ψ : Dev nD × Hop → sProp 𝕄) : (bigSep Finset.univ fun c : Dev nD => bigSepL hops fun t => Ψ (c, t)) = bigSep Finset.univ Ψ :=
    (bigSep_congr fun c _ => (bigSep_fin 60 fun t => Ψ (c, t)).symm).trans (bigSep_univ_prod Ψ).symm
  exact (h fun p => Φ p.1 p.2).trans ((bigSep_univ_equiv arrivals _).trans (h fun p => Φ (dst p.1 p.2) p.2).symm)

omit [FloatOps F] in
theorem toks_eq (c : Dev nD) : (toks c : sProp 𝕄) = iprop(dutyTok ER (barCell c) 0 true ∗ dutyTok ER (barCell c) 0 false ∗ dutyTok ER (copyCell c) 0 false
      ∗ (bigSepL hops fun t => dutyTok ER (sendCell c t) 0 false) ∗ bigSepL hops fun t => dutyTok ER (recvCell c t) 0 false) := by
  unfold toks; rw [spots_eq]

omit [FloatOps F] in
/-- The rights go round the ring: each to the device that pays. -/
theorem toks_around : (bigSep Finset.univ fun c : Dev nD => (toks c : sProp 𝕄)) ⊢ bigSep Finset.univ fun c : Dev nD => payToks c := by
  rw [bigSep_congr fun c _ => toks_eq c]
  unfold payToks
  rw [bigSep_sep', bigSep_sep', bigSep_sep', bigSep_sep', bigSep_sep', bigSep_sep', bigSep_sep', bigSep_sep',
    bigSep_arrivals fun c t => dutyTok ER (recvCell c t) 0 false,
    bigSep_univ_equiv turn (fun c : Dev nD => (dutyTok ER (barCell c) 0 true : sProp 𝕄)),
    bigSep_univ_equiv turn.symm (fun c : Dev nD => (dutyTok ER (barCell c) 0 false : sProp 𝕄))]
  iintro ⟨H1, H2, H⟩
  isplitl [H2]; · iexact H2
  isplitl [H1]; · iexact H1
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem linear_intro (c : Dev nD) : iprop((bigSep Finset.univ fun s : Spot => atPos ER (kcell (c, s)) 0 ∅ 0) ∗ payToks c) ⊢ (linear c : sProp 𝕄) := by
  rw [spots_eq]
  unfold linear payToks
  iintro ⟨⟨H1, H2, H3, H4⟩, H⟩
  isplitl [H1]; · iexact H1
  isplitl [H2]; · iexact H2
  isplitl [H3]; · iexact H3
  isplitl [H4]; · iexact H4
  iexact H

omit [FloatOps F] in
theorem deal_intro (K : Dev nD × Spot → ℕ) (c : Dev nD) : iprop(records m K ∗ linear c) ⊢ G' m c := by
  unfold G'
  iintro H
  iexists K; iexact H

omit [FloatOps F] in
theorem regroup :
    (bigSep Finset.univ fun c : Dev nD => iprop((bigSep Finset.univ fun s => iprop(∃ κ : ℕ, cellInv ER (plan m) κ (kcell (c, s))))
          ∗ (bigSep Finset.univ fun s => iprop(atPos ER (kcell (c, s)) 0 ∅ 0 ∗ reached ER (kcell (c, s)) 0)) ∗ toks c) : sProp 𝕄)
      ⊢ bigSep Finset.univ (G' m) := by
  rw [bigSep_sep', bigSep_sep', ← bigSep_univ_prod (fun ck : Dev nD × Spot => iprop(∃ κ : ℕ, cellInv ER (plan m) κ (kcell ck))),
    bigSep_congr (s := Finset.univ) (fun (c : Dev nD) _ => bigSep_sep' Finset.univ (fun s : Spot => (atPos ER (kcell (c, s)) 0 ∅ 0 : sProp 𝕄)) (fun s => reached ER (kcell (c, s)) 0)),
    bigSep_sep', ← bigSep_univ_prod (fun ck : Dev nD × Spot => (reached ER (kcell ck) 0 : sProp 𝕄))]
  iintro ⟨HI, ⟨Hat, #HR⟩, Htok⟩
  ihave HK := (BI.bigSep_exists_pi Finset.univ (fun (ck : Dev nD × Spot) (κ : ℕ) => (cellInv ER (plan m) κ (kcell ck) : sProp 𝕄))) $$ HI
  icases HK with ⟨%K, #HI⟩
  ihave Htk := (toks_around (F := F)) $$ Htok
  iapply (bigSep_with_persistent (R := records m K) fun c _ => deal_intro m K c)
  isplitr
  · unfold records; isplitl; · iexact HI
    iexact HR
  · iapply ((Entails.of_eq (bigSep_sep' Finset.univ (fun c : Dev nD => bigSep Finset.univ fun s : Spot => (atPos ER (kcell (c, s)) 0 ∅ 0 : sProp 𝕄)) payToks).symm).trans
      (bigSep_mono fun c _ => linear_intro c))
    isplitl [Hat]; · iexact Hat
    iexact Htk

omit [FloatOps F] in
/-- The global step: every device's semaphores become invariants at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at the launch -/

omit [FloatOps F] in
/-- What the neighbours owe a device is two greetings and one copy by each arrival. -/
theorem creds (c : Dev nD) :
    (Pipeline.launchCred O₀ c : sProp 𝕄)
      ⊢ iprop(cred (tallyAt (barCell c) () 2) ∗ bigSepL hops fun t => cred (tallyAt (recvCell c t) () N)) := by
  have e0 : (Pipeline.launchCred O₀ c : sProp 𝕄)
      = iprop(Pipeline.launchCred O₁ c ∗ Pipeline.launchCred (fun d => tallyAt (barCell (lft d)) () 1) c) :=
    Pipeline.launchCred_add O₁ (fun d => tallyAt (barCell (lft d)) () 1) c
  have e1 : (Pipeline.launchCred O₁ c : sProp 𝕄)
      = iprop(Pipeline.launchCred (fun d => owedFor d hops) c ∗ Pipeline.launchCred (fun d => tallyAt (barCell (rgt d)) () 1) c) :=
    Pipeline.launchCred_add (fun d => owedFor d hops) (fun d => tallyAt (barCell (rgt d)) () 1) c
  have e2 : (Pipeline.launchCred (fun d => owedFor d hops) c : sProp 𝕄)
      = bigSepL hops fun t => Pipeline.launchCred (fun d => tallyAt (recvCell (dst d t) t) () N) c := by
    rw [← bigSep_fin 60, ← Pipeline.launchCred_sum]
    exact congrArg (fun D => Pipeline.launchCred D c) (funext fun d => (Fin.sum_univ_def _).symm)
  have e3 : (cred (tallyAt (barCell c) () 2) : sProp 𝕄) = iprop(cred (tallyAt (barCell c) () 1) ∗ cred (tallyAt (barCell c) () 1)) := by
    rw [← tallyAt_add (barCell c) () 1 1]
    exact BI.Entails.antisymm (cred_add _ _).1 (cred_add _ _).2
  rw [e0, e1, e2, e3]
  iintro ⟨⟨HV, HR⟩, HL⟩
  isplitl [HR HL]
  · isplitl [HL]
    · iapply (Pipeline.launchCred_tallyAt (.reg barS) lft rgt lft_rgt rgt_lft () 1 c); iexact HL
    · iapply (Pipeline.launchCred_tallyAt (.reg barS) rgt lft rgt_lft lft_rgt () 1 c); iexact HR
  · iapply (bigSepL_mono fun t _ => Pipeline.launchCred_tallyAt (.dma (recvS t)) (fun d => dst d t) (fun d => src d t) (fun d => dst_src d t) (fun d => src_dst d t) () N c)
    iexact HV

/-! ## The side conditions of the launch theorem -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨Hout, Hlev, Hcr, -, HG⟩
  ihave Hc := (creds (F := F) c) $$ Hcr
  icases Hc with ⟨H1, HN⟩
  imodintro
  unfold Φ₀ G' ghost known order
  icases HG with ⟨%K, Hr, Hl⟩
  isplitl
  · isplitl [Hlev Hr Hl]
    · iexists K
      isplitl [Hlev Hr]
      · isplitl [Hr] <;> iassumption
      iexact Hl
    isplitl [H1]; · iexact H1
    isplitl [HN]; · iexact HN
    iexact Hout
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

/-- What is left to read at the end: the barrier's semaphore and the gathered array. -/
def Y (c : Dev nD) : sProp 𝕄 := iprop(unscopedSems0 c ∗ ((c : Thread nD τ).loc main_v1 ↦{fullShare} gath m))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y
  rw [unscopedSems0_eq]
  iintro ⟨Hout, HzB, HzC, HzS, HzV⟩
  isplitl [Hout HzB]
  · isplitl [HzB] <;> iassumption
  isplitl
  · isplitl [HzC]; · iexact HzC
    isplitl [HzS] <;> iassumption
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

omit [FloatOps F] in
/-- At the end a device's array and its barrier are read off the machine. -/
theorem read_end (c : Dev nD) (s' : Phys nD τ sig (Elt F)) :
    iprop(Y m c ∗ emp ∗ SI s') ⊢ (|={Set.univ}=> iprop(⌜s'.mem.mem ((c : Thread nD τ).loc main_v1) = gath m
        ∧ ∀ sm : SemLoc sig, sm.isScoped .tc = false → s'.mem.sem ((c : Thread nD τ), sm) = 0⌝ ∗ SI s') : sProp 𝕄) := by
  unfold Y
  iintro ⟨⟨Hu, Hout⟩, -, HSI⟩
  ihave %h := (SI_pointsTo_agree (st := s') (ℓ := (c : Thread nD τ).loc main_v1) (I := Finset.univ) (q := fullShare) (f := gath m)) $$ [HSI Hout]
  · isplitl [HSI] <;> iassumption
  imod (Pipeline.unscopedSems0_read (X := unscopedSems0 c) (c := c) fupd_intro s') $$ [Hu HSI] with ⟨%h', HSI⟩
  · isplitl [Hu] <;> iassumption
  imodintro
  isplitr
  · ipureintro; exact ⟨funext fun i => h i (Finset.mem_univ i), h'⟩
  iexact HSI

/-! ## The run -/

set_option maxRecDepth 100000 in
/-- From any memory with all counters at zero, every execution ends, and it ends with every device's array the gathered one,
    its argument as it was, and all counters at zero. -/
theorem run_main : θ_run defs (onTc (τ := τ) (main (F := F))) ⟨m, fun _ => 0, ρ⟩ (fun r =>
    (∀ c : Dev nD, r.2.mem ((c : Thread nD τ).loc main_v1) = gath m
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := Φ₀ m) (Y := Y m) (Z := fun _ => iprop(emp))
    (hX := start_intro m ρ) (hin := phi0_intro m) (hout := phi1_exit m)
    (QY := fun c s => s.mem ((c : Thread nD τ).loc main_v1) = gath m ∧ ∀ sm : SemLoc sig, sm.isScoped .tc = false → s.sem ((c : Thread nD τ), sm) = 0)
    (hY := read_end m)
    (hQ := fun _ h hs => ⟨fun c => ⟨(h c).2.2.1, ((h c).1 0).trans ((dats (F := F) m 0 c).arrAt_in 0 rfl _)⟩, sem_eq_zero hs fun c => (h c).2.2.2⟩)

end Cert.KernelIdealProof

end
-- ==== Proof.Ref.lean ====
/- The run of the reference, which returns its argument. -/
module

public import proofs.«01_k».proof.Proof.Gen.ReferenceIdeal
public import Idealize.ShloMosaic.Lib.StableHlo.Run

@[expose] public section

noncomputable section

namespace Cert.ReferenceIdealProof

open Cert.ReferenceIdeal Cert.ReferenceIdeal.Gen
open Idealize.ShloMosaic Idealize.ShloMosaic.TcCoe Idealize.ShloMosaic.StableHlo Idealize.SL.Sem

variable {F : FTy → Type} [FloatOps F]

theorem no_refs : (Finset.univ.filter fun b : Ref sig .tc => b.isScoped) = ∅ := by decide
theorem no_sems : (Finset.univ.filter fun sm : SemLoc sig => sm.isScoped .tc) = ∅ := by decide

/-- The reference returns its argument: from any memory with all counters at zero, every execution ends, and it ends with
    that array as it was. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq no_refs no_sems defs main (fun _ => []) (fun _ => rfl) (fun _ => trivial) m ρ)

end Cert.ReferenceIdealProof

end
-- ==== Proof.lean ====
/- The claims about the gathering kernel, put together from its run on any float values and from the reference's. -/
module

public import proofs.«01_k».proof.Defs
public import proofs.«01_k».proof.Proof.Launch
public import proofs.«01_k».proof.Proof.Ideal.Launch
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem

/-- The kernel at bit-exact floats ends, its argument unchanged and all counters at zero. -/
theorem kernel_ends : Cert.quiescent_Kernel := fun m ρ _ =>
  (θ_run Cert.Kernel.defs _ _).mono (fun _ h => ⟨fun c => (h.1 c).2, h.2⟩) (Cert.KernelProof.run_main (F := Bits) m ρ)

/-- So does the kernel at ideal floats, -/
theorem ideal_ends : Cert.quiescent_KernelIdeal := fun m ρ _ =>
  (θ_run Cert.KernelIdeal.defs _ _).mono (fun _ h => ⟨fun c => (h.1 c).2, h.2⟩) (Cert.KernelIdealProof.run_main (F := Ideal) m ρ)

/-- and the reference, which has no semaphore. -/
theorem reference_ends : Cert.quiescent_ReferenceIdeal := fun m ρ _ =>
  (θ_run Cert.ReferenceIdeal.defs _ _).mono (fun r h => ⟨h, sem_eq_zero_of_no_sems (by decide) r.2⟩)
    (Cert.ReferenceIdealProof.run_main (F := Ideal) m ρ)

/-- On every device the kernel's result is the whole array of which the devices' arguments are the blocks, and that array
    is the reference's result. -/
theorem same_value : Cert.algebraic_KernelIdeal_ReferenceIdeal := fun m ρ m' ρ' _ hblocks =>
  ⟨m' _,
    (θ_run Cert.KernelIdeal.defs _ _).mono
      (fun _ h c => ⟨(h.1 c).1.trans (Cert.KernelIdealProof.gath_of_blocks m _ hblocks), (h.1 c).2⟩)
      (Cert.KernelIdealProof.run_main (F := Ideal) m ρ),
    (θ_run Cert.ReferenceIdeal.defs _ _).mono (fun _ h => ⟨h 0, h 0⟩) (Cert.ReferenceIdealProof.run_main (F := Ideal) m' ρ')⟩

/-- All claims of this certificate. -/
theorem claim : Cert.Claim :=
  ⟨Cert.Kernel.Gen.facts, Cert.KernelIdeal.Gen.facts, Cert.ReferenceIdeal.Gen.facts,
    kernel_ends, ideal_ends, reference_ends, trivial, same_value⟩

end Cert.Proof

end
